-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v70) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x384x5376 : Shape := ⟨3, ![5, 384, 5376]⟩
abbrev S3 : Shape := ⟨1, ![3]⟩
abbrev S3x5x384 : Shape := ⟨3, ![3, 5, 384]⟩
abbrev S5376 : Shape := ⟨1, ![5376]⟩
abbrev S5x3x384 : Shape := ⟨3, ![5, 3, 384]⟩
abbrev S1x5376 : Shape := ⟨2, ![1, 5376]⟩
abbrev S5x42x384 : Shape := ⟨3, ![5, 42, 384]⟩
abbrev S5x5376x384 : Shape := ⟨3, ![5, 5376, 384]⟩
abbrev S5x3x5376 : Shape := ⟨3, ![5, 3, 5376]⟩
abbrev S5x384 : Shape := ⟨2, ![5, 384]⟩
abbrev S1x3x128 : Shape := ⟨3, ![1, 3, 128]⟩
abbrev S1x128x5376 : Shape := ⟨3, ![1, 128, 5376]⟩
abbrev S1x42x128 : Shape := ⟨3, ![1, 42, 128]⟩
abbrev S1x5376x128 : Shape := ⟨3, ![1, 5376, 128]⟩
abbrev S1x3x5376 : Shape := ⟨3, ![1, 3, 5376]⟩
abbrev S128x5376 : Shape := ⟨2, ![128, 5376]⟩
abbrev S128x128 : Shape := ⟨2, ![128, 128]⟩
abbrev S42x8x128 : Shape := ⟨3, ![42, 8, 128]⟩
abbrev S2x3x8x128 : Shape := ⟨4, ![2, 3, 8, 128]⟩
abbrev S1x128x128 : Shape := ⟨3, ![1, 128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1x128 : Shape := ⟨3, ![1, 1, 128]⟩
abbrev S1x1x1x128 : Shape := ⟨4, ![1, 1, 1, 128]⟩
abbrev S42x128 : Shape := ⟨2, ![42, 128]⟩
abbrev S3x128 : Shape := ⟨2, ![3, 128]⟩
abbrev S1x1x5x128 : Shape := ⟨4, ![1, 1, 5, 128]⟩
abbrev S5x128 : Shape := ⟨2, ![5, 128]⟩

abbrev nBuf : Space → Nat
  | .hbm => 16
  | .vmem => 22
  | .smem => 1
  | _ => 0

abbrev bufTy : (tb : Table) → Fin (tcTables nBuf tb) → BufTy
  | .hbm, ⟨0, _⟩ => ⟨S5x384x5376, .bf16⟩
  | .hbm, ⟨1, _⟩ => ⟨S3, .f32⟩
  | .hbm, ⟨2, _⟩ => ⟨S3x5x384, .f32⟩
  | .hbm, ⟨3, _⟩ => ⟨S3x5x384, .f32⟩
  | .hbm, ⟨4, _⟩ => ⟨S5376, .f32⟩
  | .hbm, ⟨5, _⟩ => ⟨S5376, .f32⟩
  | .hbm, ⟨6, _⟩ => ⟨S5x3x384, .f32⟩
  | .hbm, ⟨7, _⟩ => ⟨S5x3x384, .f32⟩
  | .hbm, ⟨8, _⟩ => ⟨S1x5376, .f32⟩
  | .hbm, ⟨9, _⟩ => ⟨S1x5376, .f32⟩
  | .hbm, ⟨10, _⟩ => ⟨S5x384x5376, .fp8e4m3⟩
  | .hbm, ⟨11, _⟩ => ⟨S5x42x384, .f32⟩
  | .hbm, ⟨12, _⟩ => ⟨S5x5376x384, .fp8e4m3⟩
  | .hbm, ⟨13, _⟩ => ⟨S5x3x5376, .f32⟩
  | .hbm, ⟨14, _⟩ => ⟨S5x384, .f32⟩
  | .hbm, ⟨15, _⟩ => ⟨S5x384, .f32⟩
  | .local _ .vmem, ⟨0, _⟩ => ⟨S1x3x128, .f32⟩
  | .local _ .vmem, ⟨1, _⟩ => ⟨S1x3x128, .f32⟩
  | .local _ .vmem, ⟨2, _⟩ => ⟨S1x3x128, .f32⟩
  | .local _ .vmem, ⟨3, _⟩ => ⟨S1x3x128, .f32⟩
  | .local _ .vmem, ⟨4, _⟩ => ⟨S1x128x5376, .bf16⟩
  | .local _ .vmem, ⟨5, _⟩ => ⟨S1x128x5376, .bf16⟩
  | .local _ .vmem, ⟨6, _⟩ => ⟨S1x5376, .f32⟩
  | .local _ .vmem, ⟨7, _⟩ => ⟨S1x5376, .f32⟩
  | .local _ .vmem, ⟨8, _⟩ => ⟨S1x128x5376, .fp8e4m3⟩
  | .local _ .vmem, ⟨9, _⟩ => ⟨S1x128x5376, .fp8e4m3⟩
  | .local _ .vmem, ⟨10, _⟩ => ⟨S1x42x128, .f32⟩
  | .local _ .vmem, ⟨11, _⟩ => ⟨S1x42x128, .f32⟩
  | .local _ .vmem, ⟨12, _⟩ => ⟨S1x5376x128, .fp8e4m3⟩
  | .local _ .vmem, ⟨13, _⟩ => ⟨S1x5376x128, .fp8e4m3⟩
  | .local _ .vmem, ⟨14, _⟩ => ⟨S1x3x5376, .f32⟩
  | .local _ .vmem, ⟨15, _⟩ => ⟨S1x3x5376, .f32⟩
  | .local _ .vmem, ⟨16, _⟩ => ⟨S5x384, .f32⟩
  | .local _ .vmem, ⟨17, _⟩ => ⟨S5x384, .f32⟩
  | .local _ .vmem, ⟨18, _⟩ => ⟨S128x5376, .f32⟩
  | .local _ .vmem, ⟨19, _⟩ => ⟨S128x128, .f32⟩
  | .local _ .vmem, ⟨20, _⟩ => ⟨S42x8x128, .f32⟩
  | .local _ .vmem, ⟨21, _⟩ => ⟨S2x3x8x128, .f32⟩
  | .local _ .smem, ⟨0, _⟩ => ⟨S3, .f32⟩
  | _, _ => ⟨S5x384x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![5, 3], ![false, false]⟩

def k0_off1 (i : grid0.Coords) : Fin 4 → Nat :=
  let c0_235 : Index := 0#32
  let arg1 : BitVec 32 := BitVec.ofNat 32 (i 1).val
  let v534 : Index := Scalar.indexCast arg1
  let arg0 : BitVec 32 := BitVec.ofNat 32 (i 0).val
  let v535 : Index := Scalar.indexCast arg0
  let c0_236 : Index := 0#32
  ![0, v534.toNat, v535.toNat, 0]
def k0_off2 (i : grid0.Coords) : Fin 4 → Nat :=
  let c1_237 : Index := 1#32
  let arg1 : BitVec 32 := BitVec.ofNat 32 (i 1).val
  let v539 : Index := Scalar.indexCast arg1
  let arg0 : BitVec 32 := BitVec.ofNat 32 (i 0).val
  let v540 : Index := Scalar.indexCast arg0
  let c0_238 : Index := 0#32
  ![1, v539.toNat, v540.toNat, 0]
def k0_off3 (i : grid0.Coords) : Fin 3 → Nat :=
  let c0_264 : Index := 0#32
  let arg1 : BitVec 32 := BitVec.ofNat 32 (i 1).val
  let v650 : Index := Scalar.indexCast arg1
  let c0_265 : Index := 0#32
  ![0, v650.toNat, 0]
def k0_off4 (i : grid0.Coords) : Fin 3 → Nat :=
  let c1_309 : Index := 1#32
  let arg1 : BitVec 32 := BitVec.ofNat 32 (i 1).val
  let v767 : Index := Scalar.indexCast arg1
  let c0_310 : Index := 0#32
  ![1, v767.toNat, 0]
def k0_off5 (i : grid0.Coords) : Fin 3 → Nat :=
  let c2_354 : Index := 2#32
  let arg1 : BitVec 32 := BitVec.ofNat 32 (i 1).val
  let v884 : Index := Scalar.indexCast arg1
  let c0_355 : Index := 0#32
  ![2, v884.toNat, 0]
def k0_off6 (i : grid0.Coords) : Fin 3 → Nat :=
  let c3_398 : Index := 3#32
  let arg1 : BitVec 32 := BitVec.ofNat 32 (i 1).val
  let v1001 : Index := Scalar.indexCast arg1
  let c0_399 : Index := 0#32
  ![3, v1001.toNat, 0]
def k0_off7 (i : grid0.Coords) : Fin 3 → Nat :=
  let c4_442 : Index := 4#32
  let arg1 : BitVec 32 := BitVec.ofNat 32 (i 1).val
  let v1118 : Index := Scalar.indexCast arg1
  let c0_443 : Index := 0#32
  ![4, v1118.toNat, 0]
def k0_off8 (i : grid0.Coords) : Fin 3 → Nat :=
  let c5_486 : Index := 5#32
  let arg1 : BitVec 32 := BitVec.ofNat 32 (i 1).val
  let v1235 : Index := Scalar.indexCast arg1
  let c0_487 : Index := 0#32
  ![5, v1235.toNat, 0]
def k0_off9 (i : grid0.Coords) : Fin 3 → Nat :=
  let c6_530 : Index := 6#32
  let arg1 : BitVec 32 := BitVec.ofNat 32 (i 1).val
  let v1352 : Index := Scalar.indexCast arg1
  let c0_531 : Index := 0#32
  ![6, v1352.toNat, 0]
def k0_off10 (i : grid0.Coords) : Fin 3 → Nat :=
  let c7_574 : Index := 7#32
  let arg1 : BitVec 32 := BitVec.ofNat 32 (i 1).val
  let v1469 : Index := Scalar.indexCast arg1
  let c0_575 : Index := 0#32
  ![7, v1469.toNat, 0]
def k0_off11 (i : grid0.Coords) : Fin 3 → Nat :=
  let c8_618 : Index := 8#32
  let arg1 : BitVec 32 := BitVec.ofNat 32 (i 1).val
  let v1586 : Index := Scalar.indexCast arg1
  let c0_619 : Index := 0#32
  ![8, v1586.toNat, 0]
def k0_off12 (i : grid0.Coords) : Fin 3 → Nat :=
  let c9_662 : Index := 9#32
  let arg1 : BitVec 32 := BitVec.ofNat 32 (i 1).val
  let v1703 : Index := Scalar.indexCast arg1
  let c0_663 : Index := 0#32
  ![9, v1703.toNat, 0]
def k0_off13 (i : grid0.Coords) : Fin 3 → Nat :=
  let c10_706 : Index := 10#32
  let arg1 : BitVec 32 := BitVec.ofNat 32 (i 1).val
  let v1820 : Index := Scalar.indexCast arg1
  let c0_707 : Index := 0#32
  ![10, v1820.toNat, 0]
def k0_off14 (i : grid0.Coords) : Fin 3 → Nat :=
  let c11_750 : Index := 11#32
  let arg1 : BitVec 32 := BitVec.ofNat 32 (i 1).val
  let v1937 : Index := Scalar.indexCast arg1
  let c0_751 : Index := 0#32
  ![11, v1937.toNat, 0]
def k0_off15 (i : grid0.Coords) : Fin 3 → Nat :=
  let c12_794 : Index := 12#32
  let arg1 : BitVec 32 := BitVec.ofNat 32 (i 1).val
  let v2054 : Index := Scalar.indexCast arg1
  let c0_795 : Index := 0#32
  ![12, v2054.toNat, 0]
def k0_off16 (i : grid0.Coords) : Fin 3 → Nat :=
  let c13_838 : Index := 13#32
  let arg1 : BitVec 32 := BitVec.ofNat 32 (i 1).val
  let v2171 : Index := Scalar.indexCast arg1
  let c0_839 : Index := 0#32
  ![13, v2171.toNat, 0]
def k0_off17 (i : grid0.Coords) : Fin 3 → Nat :=
  let c14_882 : Index := 14#32
  let arg1 : BitVec 32 := BitVec.ofNat 32 (i 1).val
  let v2288 : Index := Scalar.indexCast arg1
  let c0_883 : Index := 0#32
  ![14, v2288.toNat, 0]
def k0_off18 (i : grid0.Coords) : Fin 3 → Nat :=
  let c15_926 : Index := 15#32
  let arg1 : BitVec 32 := BitVec.ofNat 32 (i 1).val
  let v2405 : Index := Scalar.indexCast arg1
  let c0_927 : Index := 0#32
  ![15, v2405.toNat, 0]
def k0_off19 (i : grid0.Coords) : Fin 3 → Nat :=
  let c16_970 : Index := 16#32
  let arg1 : BitVec 32 := BitVec.ofNat 32 (i 1).val
  let v2522 : Index := Scalar.indexCast arg1
  let c0_971 : Index := 0#32
  ![16, v2522.toNat, 0]
def k0_off20 (i : grid0.Coords) : Fin 3 → Nat :=
  let c17_1014 : Index := 17#32
  let arg1 : BitVec 32 := BitVec.ofNat 32 (i 1).val
  let v2639 : Index := Scalar.indexCast arg1
  let c0_1015 : Index := 0#32
  ![17, v2639.toNat, 0]
def k0_off21 (i : grid0.Coords) : Fin 3 → Nat :=
  let c18_1058 : Index := 18#32
  let arg1 : BitVec 32 := BitVec.ofNat 32 (i 1).val
  let v2756 : Index := Scalar.indexCast arg1
  let c0_1059 : Index := 0#32
  ![18, v2756.toNat, 0]
def k0_off22 (i : grid0.Coords) : Fin 3 → Nat :=
  let c19_1102 : Index := 19#32
  let arg1 : BitVec 32 := BitVec.ofNat 32 (i 1).val
  let v2873 : Index := Scalar.indexCast arg1
  let c0_1103 : Index := 0#32
  ![19, v2873.toNat, 0]
def k0_off23 (i : grid0.Coords) : Fin 3 → Nat :=
  let c20_1146 : Index := 20#32
  let arg1 : BitVec 32 := BitVec.ofNat 32 (i 1).val
  let v2990 : Index := Scalar.indexCast arg1
  let c0_1147 : Index := 0#32
  ![20, v2990.toNat, 0]
def k0_off24 (i : grid0.Coords) : Fin 3 → Nat :=
  let c21_1190 : Index := 21#32
  let arg1 : BitVec 32 := BitVec.ofNat 32 (i 1).val
  let v3107 : Index := Scalar.indexCast arg1
  let c0_1191 : Index := 0#32
  ![21, v3107.toNat, 0]
def k0_off25 (i : grid0.Coords) : Fin 3 → Nat :=
  let c22_1234 : Index := 22#32
  let arg1 : BitVec 32 := BitVec.ofNat 32 (i 1).val
  let v3224 : Index := Scalar.indexCast arg1
  let c0_1235 : Index := 0#32
  ![22, v3224.toNat, 0]
def k0_off26 (i : grid0.Coords) : Fin 3 → Nat :=
  let c23_1278 : Index := 23#32
  let arg1 : BitVec 32 := BitVec.ofNat 32 (i 1).val
  let v3341 : Index := Scalar.indexCast arg1
  let c0_1279 : Index := 0#32
  ![23, v3341.toNat, 0]
def k0_off27 (i : grid0.Coords) : Fin 3 → Nat :=
  let c24_1322 : Index := 24#32
  let arg1 : BitVec 32 := BitVec.ofNat 32 (i 1).val
  let v3458 : Index := Scalar.indexCast arg1
  let c0_1323 : Index := 0#32
  ![24, v3458.toNat, 0]
def k0_off28 (i : grid0.Coords) : Fin 3 → Nat :=
  let c25_1366 : Index := 25#32
  let arg1 : BitVec 32 := BitVec.ofNat 32 (i 1).val
  let v3575 : Index := Scalar.indexCast arg1
  let c0_1367 : Index := 0#32
  ![25, v3575.toNat, 0]
def k0_off29 (i : grid0.Coords) : Fin 3 → Nat :=
  let c26_1410 : Index := 26#32
  let arg1 : BitVec 32 := BitVec.ofNat 32 (i 1).val
  let v3692 : Index := Scalar.indexCast arg1
  let c0_1411 : Index := 0#32
  ![26, v3692.toNat, 0]
def k0_off30 (i : grid0.Coords) : Fin 3 → Nat :=
  let c27_1454 : Index := 27#32
  let arg1 : BitVec 32 := BitVec.ofNat 32 (i 1).val
  let v3809 : Index := Scalar.indexCast arg1
  let c0_1455 : Index := 0#32
  ![27, v3809.toNat, 0]
def k0_off31 (i : grid0.Coords) : Fin 3 → Nat :=
  let c28_1498 : Index := 28#32
  let arg1 : BitVec 32 := BitVec.ofNat 32 (i 1).val
  let v3926 : Index := Scalar.indexCast arg1
  let c0_1499 : Index := 0#32
  ![28, v3926.toNat, 0]
def k0_off32 (i : grid0.Coords) : Fin 3 → Nat :=
  let c29_1542 : Index := 29#32
  let arg1 : BitVec 32 := BitVec.ofNat 32 (i 1).val
  let v4043 : Index := Scalar.indexCast arg1
  let c0_1543 : Index := 0#32
  ![29, v4043.toNat, 0]
def k0_off33 (i : grid0.Coords) : Fin 3 → Nat :=
  let c30_1586 : Index := 30#32
  let arg1 : BitVec 32 := BitVec.ofNat 32 (i 1).val
  let v4160 : Index := Scalar.indexCast arg1
  let c0_1587 : Index := 0#32
  ![30, v4160.toNat, 0]
def k0_off34 (i : grid0.Coords) : Fin 3 → Nat :=
  let c31_1630 : Index := 31#32
  let arg1 : BitVec 32 := BitVec.ofNat 32 (i 1).val
  let v4277 : Index := Scalar.indexCast arg1
  let c0_1631 : Index := 0#32
  ![31, v4277.toNat, 0]
def k0_off35 (i : grid0.Coords) : Fin 3 → Nat :=
  let c32_1674 : Index := 32#32
  let arg1 : BitVec 32 := BitVec.ofNat 32 (i 1).val
  let v4394 : Index := Scalar.indexCast arg1
  let c0_1675 : Index := 0#32
  ![32, v4394.toNat, 0]
def k0_off36 (i : grid0.Coords) : Fin 3 → Nat :=
  let c33_1718 : Index := 33#32
  let arg1 : BitVec 32 := BitVec.ofNat 32 (i 1).val
  let v4511 : Index := Scalar.indexCast arg1
  let c0_1719 : Index := 0#32
  ![33, v4511.toNat, 0]
def k0_off37 (i : grid0.Coords) : Fin 3 → Nat :=
  let c34_1762 : Index := 34#32
  let arg1 : BitVec 32 := BitVec.ofNat 32 (i 1).val
  let v4628 : Index := Scalar.indexCast arg1
  let c0_1763 : Index := 0#32
  ![34, v4628.toNat, 0]
def k0_off38 (i : grid0.Coords) : Fin 3 → Nat :=
  let c35_1806 : Index := 35#32
  let arg1 : BitVec 32 := BitVec.ofNat 32 (i 1).val
  let v4745 : Index := Scalar.indexCast arg1
  let c0_1807 : Index := 0#32
  ![35, v4745.toNat, 0]
def k0_off39 (i : grid0.Coords) : Fin 3 → Nat :=
  let c36_1850 : Index := 36#32
  let arg1 : BitVec 32 := BitVec.ofNat 32 (i 1).val
  let v4862 : Index := Scalar.indexCast arg1
  let c0_1851 : Index := 0#32
  ![36, v4862.toNat, 0]
def k0_off40 (i : grid0.Coords) : Fin 3 → Nat :=
  let c37_1894 : Index := 37#32
  let arg1 : BitVec 32 := BitVec.ofNat 32 (i 1).val
  let v4979 : Index := Scalar.indexCast arg1
  let c0_1895 : Index := 0#32
  ![37, v4979.toNat, 0]
def k0_off41 (i : grid0.Coords) : Fin 3 → Nat :=
  let c38_1938 : Index := 38#32
  let arg1 : BitVec 32 := BitVec.ofNat 32 (i 1).val
  let v5096 : Index := Scalar.indexCast arg1
  let c0_1939 : Index := 0#32
  ![38, v5096.toNat, 0]
def k0_off42 (i : grid0.Coords) : Fin 3 → Nat :=
  let c39_1982 : Index := 39#32
  let arg1 : BitVec 32 := BitVec.ofNat 32 (i 1).val
  let v5213 : Index := Scalar.indexCast arg1
  let c0_1983 : Index := 0#32
  ![39, v5213.toNat, 0]
def k0_off43 (i : grid0.Coords) : Fin 3 → Nat :=
  let c40_2026 : Index := 40#32
  let arg1 : BitVec 32 := BitVec.ofNat 32 (i 1).val
  let v5330 : Index := Scalar.indexCast arg1
  let c0_2027 : Index := 0#32
  ![40, v5330.toNat, 0]
def k0_off44 (i : grid0.Coords) : Fin 3 → Nat :=
  let c41_2070 : Index := 41#32
  let arg1 : BitVec 32 := BitVec.ofNat 32 (i 1).val
  let v5447 : Index := Scalar.indexCast arg1
  let c0_2071 : Index := 0#32
  ![41, v5447.toNat, 0]
def k0_cond1 (i : grid0.Coords) : BitVec 1 :=
  let arg1 : BitVec 32 := BitVec.ofNat 32 (i 1).val
  let c2_i32_2401 : BitVec 32 := 2#32
  let v6050 : BitVec 1 := Scalar.cmpi .eq arg1 c2_i32_2401
  let v6051 : BitVec 32 := Scalar.extui v6050
  let c0_i32_2402 : BitVec 32 := 0#32
  let v6052 : BitVec 1 := Scalar.cmpi .ne v6051 c0_i32_2402
  v6052

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x5376 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x42x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x5376x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x5376 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S5x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S5x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S5x384x5376 : Shape := ⟨3, ![5, 384, 5376]⟩
abbrev S3 : Shape := ⟨1, ![3]⟩
abbrev S3x5x384 : Shape := ⟨3, ![3, 5, 384]⟩
abbrev S5376 : Shape := ⟨1, ![5376]⟩
abbrev S254 : Shape := ⟨1, ![254]⟩
abbrev S_ : Shape := ⟨0, ![]⟩
abbrev S5x384 : Shape := ⟨2, ![5, 384]⟩
abbrev S5x384x1 : Shape := ⟨3, ![5, 384, 1]⟩
abbrev S1 : Shape := ⟨1, ![1]⟩
abbrev S1x5x384 : Shape := ⟨3, ![1, 5, 384]⟩
abbrev S1x1x5376 : Shape := ⟨3, ![1, 1, 5376]⟩
abbrev S5x384x42x128 : Shape := ⟨4, ![5, 384, 42, 128]⟩
abbrev S5x384x42 : Shape := ⟨3, ![5, 384, 42]⟩
abbrev S5x384x42x1 : Shape := ⟨4, ![5, 384, 42, 1]⟩
abbrev S1x1x1x254 : Shape := ⟨4, ![1, 1, 1, 254]⟩
abbrev S5x384x42x254 : Shape := ⟨4, ![5, 384, 42, 254]⟩
abbrev S5x3x128x5376 : Shape := ⟨4, ![5, 3, 128, 5376]⟩
abbrev S5x3x5376 : Shape := ⟨3, ![5, 3, 5376]⟩
abbrev S5x3x5376x1 : Shape := ⟨4, ![5, 3, 5376, 1]⟩
abbrev S5x3x5376x254 : Shape := ⟨4, ![5, 3, 5376, 254]⟩
abbrev S5x3x1x5376 : Shape := ⟨4, ![5, 3, 1, 5376]⟩
abbrev S5x42x384 : Shape := ⟨3, ![5, 42, 384]⟩
abbrev S5x5376x384 : Shape := ⟨3, ![5, 5376, 384]⟩

abbrev nBuf : Space → Nat
  | .hbm => 218
  | .vmem => 0
  | .smem => 0
  | _ => 0

abbrev hbmTy0_0 (i : Nat) : BufTy := match i % 128 with
  | 0 => ⟨S5x384x5376, .bf16⟩
  | 1 => ⟨S3, .f32⟩
  | 2 => ⟨S3x5x384, .f32⟩
  | 3 => ⟨S3x5x384, .f32⟩
  | 4 => ⟨S5376, .f32⟩
  | 5 => ⟨S5376, .f32⟩
  | 6 => ⟨S254, .f32⟩
  | 7 => ⟨S254, .f32⟩
  | 8 => ⟨S5x384x5376, .f32⟩
  | 9 => ⟨S_, .f32⟩
  | 10 => ⟨S5x384, .f32⟩
  | 11 => ⟨S_, .f32⟩
  | 12 => ⟨S5x384, .f32⟩
  | 13 => ⟨S5x384, .f32⟩
  | 14 => ⟨S5x384x1, .f32⟩
  | 15 => ⟨S5x384x5376, .f32⟩
  | 16 => ⟨S5x384x5376, .f32⟩
  | 17 => ⟨S5x384x5376, .f32⟩
  | 18 => ⟨S_, .f32⟩
  | 19 => ⟨S5x384, .f32⟩
  | 20 => ⟨S1, .f32⟩
  | 21 => ⟨S_, .f32⟩
  | 22 => ⟨S1x5x384, .f32⟩
  | 23 => ⟨S5x384, .f32⟩
  | 24 => ⟨S1x5x384, .f32⟩
  | 25 => ⟨S5x384, .f32⟩
  | 26 => ⟨S1, .f32⟩
  | 27 => ⟨S_, .f32⟩
  | 28 => ⟨S1x5x384, .f32⟩
  | 29 => ⟨S5x384, .f32⟩
  | 30 => ⟨S1x5x384, .f32⟩
  | 31 => ⟨S5x384, .f32⟩
  | 32 => ⟨S1, .f32⟩
  | 33 => ⟨S_, .f32⟩
  | 34 => ⟨S1x5x384, .f32⟩
  | 35 => ⟨S5x384, .f32⟩
  | 36 => ⟨S1x5x384, .f32⟩
  | 37 => ⟨S5x384, .f32⟩
  | 38 => ⟨S_, .f32⟩
  | 39 => ⟨S_, .f32⟩
  | 40 => ⟨S5x384, .f32⟩
  | 41 => ⟨S_, .f32⟩
  | 42 => ⟨S_, .f32⟩
  | 43 => ⟨S5x384, .f32⟩
  | 44 => ⟨S5x384, .f32⟩
  | 45 => ⟨S5x384, .f32⟩
  | 46 => ⟨S5x384, .f32⟩
  | 47 => ⟨S5x384, .f32⟩
  | 48 => ⟨S_, .f32⟩
  | 49 => ⟨S_, .f32⟩
  | 50 => ⟨S_, .f32⟩
  | 51 => ⟨S5x384, .f32⟩
  | 52 => ⟨S5x384, .f32⟩
  | 53 => ⟨S5x384, .f32⟩
  | 54 => ⟨S_, .f32⟩
  | 55 => ⟨S5x384, .f32⟩
  | 56 => ⟨S_, .f32⟩
  | 57 => ⟨S5x384, .f32⟩
  | 58 => ⟨S5x384, .f32⟩
  | 59 => ⟨S5x384, .f32⟩
  | 60 => ⟨S5x384, .f32⟩
  | 61 => ⟨S5x384, .f32⟩
  | 62 => ⟨S_, .f32⟩
  | 63 => ⟨S_, .f32⟩
  | 64 => ⟨S5x384, .f32⟩
  | 65 => ⟨S5x384, .f32⟩
  | 66 => ⟨S5x384, .f32⟩
  | 67 => ⟨S_, .f32⟩
  | 68 => ⟨S5x384, .f32⟩
  | 69 => ⟨S_, .f32⟩
  | 70 => ⟨S5x384, .f32⟩
  | 71 => ⟨S5x384, .f32⟩
  | 72 => ⟨S5x384, .f32⟩
  | 73 => ⟨S5x384, .f32⟩
  | 74 => ⟨S5x384, .f32⟩
  | 75 => ⟨S_, .f32⟩
  | 76 => ⟨S_, .f32⟩
  | 77 => ⟨S5x384, .f32⟩
  | 78 => ⟨S5x384, .f32⟩
  | 79 => ⟨S5x384, .f32⟩
  | 80 => ⟨S5x384, .f32⟩
  | 81 => ⟨S5x384, .f32⟩
  | 82 => ⟨S_, .f32⟩
  | 83 => ⟨S5x384, .f32⟩
  | 84 => ⟨S5x384, .f32⟩
  | 85 => ⟨S5x384, .f32⟩
  | 86 => ⟨S5x384x1, .f32⟩
  | 87 => ⟨S5x384x5376, .f32⟩
  | 88 => ⟨S5x384x5376, .f32⟩
  | 89 => ⟨S5x384x1, .f32⟩
  | 90 => ⟨S5x384x5376, .f32⟩
  | 91 => ⟨S5x384x5376, .f32⟩
  | 92 => ⟨S1x1x5376, .f32⟩
  | 93 => ⟨S5x384x5376, .f32⟩
  | 94 => ⟨S5x384x5376, .f32⟩
  | 95 => ⟨S1x1x5376, .f32⟩
  | 96 => ⟨S5x384x5376, .f32⟩
  | 97 => ⟨S5x384x5376, .f32⟩
  | 98 => ⟨S5x384x42x128, .f32⟩
  | 99 => ⟨S5x384x42x128, .f32⟩
  | 100 => ⟨S_, .f32⟩
  | 101 => ⟨S5x384x42, .f32⟩
  | 102 => ⟨S_, .f32⟩
  | 103 => ⟨S5x384x42, .f32⟩
  | 104 => ⟨S5x384x42, .f32⟩
  | 105 => ⟨S5x384x42x1, .f32⟩
  | 106 => ⟨S1x1x1x254, .f32⟩
  | 107 => ⟨S5x384x42x254, .f32⟩
  | 108 => ⟨S5x384x42x254, .f32⟩
  | 109 => ⟨S5x384x42x254, .i1⟩
  | 110 => ⟨S_, .f32⟩
  | 111 => ⟨S_, .f32⟩
  | 112 => ⟨S5x384x42x254, .f32⟩
  | 113 => ⟨S5x384x42x254, .f32⟩
  | 114 => ⟨S5x384x42x254, .f32⟩
  | 115 => ⟨S_, .f32⟩
  | 116 => ⟨S5x384x42, .f32⟩
  | 117 => ⟨S_, .f32⟩
  | 118 => ⟨S5x384x42, .f32⟩
  | 119 => ⟨S5x384x42, .i1⟩
  | 120 => ⟨S_, .f32⟩
  | 121 => ⟨S5x384x42, .f32⟩
  | 122 => ⟨S5x384x42, .i1⟩
  | 123 => ⟨S5x384x42, .i1⟩
  | 124 => ⟨S_, .f32⟩
  | 125 => ⟨S_, .f32⟩
  | 126 => ⟨S5x384x42, .f32⟩
  | 127 => ⟨S5x384x42, .f32⟩
  | _ => ⟨S5x384x5376, .bf16⟩

abbrev hbmTy0_1 (i : Nat) : BufTy := match i % 128 with
  | 0 => ⟨S_, .f32⟩
  | 1 => ⟨S5x384x42, .f32⟩
  | 2 => ⟨S5x384x42, .i1⟩
  | 3 => ⟨S_, .f32⟩
  | 4 => ⟨S5x384x42, .f32⟩
  | 5 => ⟨S5x384x42, .f32⟩
  | 6 => ⟨S_, .f32⟩
  | 7 => ⟨S5x384x42, .f32⟩
  | 8 => ⟨S5x384x42, .i1⟩
  | 9 => ⟨S_, .f32⟩
  | 10 => ⟨S_, .f32⟩
  | 11 => ⟨S5x384x42, .f32⟩
  | 12 => ⟨S5x384x42, .f32⟩
  | 13 => ⟨S5x384x42, .f32⟩
  | 14 => ⟨S5x384x42, .f32⟩
  | 15 => ⟨S5x384x42, .f32⟩
  | 16 => ⟨S5x384x42x1, .f32⟩
  | 17 => ⟨S5x384x42x128, .f32⟩
  | 18 => ⟨S5x384x42x128, .f32⟩
  | 19 => ⟨S_, .f32⟩
  | 20 => ⟨S_, .f32⟩
  | 21 => ⟨S_, .f32⟩
  | 22 => ⟨S5x384x42x128, .f32⟩
  | 23 => ⟨S5x384x42x128, .f32⟩
  | 24 => ⟨S_, .f32⟩
  | 25 => ⟨S5x384x42x128, .f32⟩
  | 26 => ⟨S5x384x42x128, .f32⟩
  | 27 => ⟨S5x384x5376, .f32⟩
  | 28 => ⟨S5x3x128x5376, .f32⟩
  | 29 => ⟨S5x3x128x5376, .f32⟩
  | 30 => ⟨S_, .f32⟩
  | 31 => ⟨S5x3x5376, .f32⟩
  | 32 => ⟨S_, .f32⟩
  | 33 => ⟨S5x3x5376, .f32⟩
  | 34 => ⟨S5x3x5376, .f32⟩
  | 35 => ⟨S5x3x5376x1, .f32⟩
  | 36 => ⟨S1x1x1x254, .f32⟩
  | 37 => ⟨S5x3x5376x254, .f32⟩
  | 38 => ⟨S5x3x5376x254, .f32⟩
  | 39 => ⟨S5x3x5376x254, .i1⟩
  | 40 => ⟨S_, .f32⟩
  | 41 => ⟨S_, .f32⟩
  | 42 => ⟨S5x3x5376x254, .f32⟩
  | 43 => ⟨S5x3x5376x254, .f32⟩
  | 44 => ⟨S5x3x5376x254, .f32⟩
  | 45 => ⟨S_, .f32⟩
  | 46 => ⟨S5x3x5376, .f32⟩
  | 47 => ⟨S_, .f32⟩
  | 48 => ⟨S5x3x5376, .f32⟩
  | 49 => ⟨S5x3x5376, .i1⟩
  | 50 => ⟨S_, .f32⟩
  | 51 => ⟨S5x3x5376, .f32⟩
  | 52 => ⟨S5x3x5376, .i1⟩
  | 53 => ⟨S5x3x5376, .i1⟩
  | 54 => ⟨S_, .f32⟩
  | 55 => ⟨S_, .f32⟩
  | 56 => ⟨S5x3x5376, .f32⟩
  | 57 => ⟨S5x3x5376, .f32⟩
  | 58 => ⟨S_, .f32⟩
  | 59 => ⟨S5x3x5376, .f32⟩
  | 60 => ⟨S5x3x5376, .i1⟩
  | 61 => ⟨S_, .f32⟩
  | 62 => ⟨S5x3x5376, .f32⟩
  | 63 => ⟨S5x3x5376, .f32⟩
  | 64 => ⟨S_, .f32⟩
  | 65 => ⟨S5x3x5376, .f32⟩
  | 66 => ⟨S5x3x5376, .i1⟩
  | 67 => ⟨S_, .f32⟩
  | 68 => ⟨S_, .f32⟩
  | 69 => ⟨S5x3x5376, .f32⟩
  | 70 => ⟨S5x3x5376, .f32⟩
  | 71 => ⟨S5x3x5376, .f32⟩
  | 72 => ⟨S5x3x5376, .f32⟩
  | 73 => ⟨S5x3x5376, .f32⟩
  | 74 => ⟨S5x3x1x5376, .f32⟩
  | 75 => ⟨S5x3x128x5376, .f32⟩
  | 76 => ⟨S5x3x128x5376, .f32⟩
  | 77 => ⟨S_, .f32⟩
  | 78 => ⟨S_, .f32⟩
  | 79 => ⟨S_, .f32⟩
  | 80 => ⟨S5x3x128x5376, .f32⟩
  | 81 => ⟨S5x3x128x5376, .f32⟩
  | 82 => ⟨S_, .f32⟩
  | 83 => ⟨S5x3x128x5376, .f32⟩
  | 84 => ⟨S5x3x128x5376, .f32⟩
  | 85 => ⟨S5x384x5376, .f32⟩
  | 86 => ⟨S5x42x384, .f32⟩
  | 87 => ⟨S5x5376x384, .f32⟩
  | 88 => ⟨S5x384x5376, .fp8e4m3⟩
  | 89 => ⟨S5x5376x384, .fp8e4m3⟩
  | _ => ⟨S5x384x5376, .bf16⟩

abbrev hbmTy (i : Nat) : BufTy := match i / 128 with
  | 0 => hbmTy0_0 i
  | 1 => hbmTy0_1 i
  | _ => ⟨S5x384x5376, .bf16⟩

abbrev bufTy : (tb : Table) → Fin (tcTables nBuf tb) → BufTy
  | .hbm, ⟨i, _⟩ => hbmTy i
  | _, _ => ⟨S5x384x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_8 : Ref sig .tc := ⟨.hbm, 100, rfl⟩
abbrev main_v85 : Ref sig .tc := ⟨.hbm, 101, rfl⟩
abbrev main_cst_9 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_call1_v0 : Ref sig .tc := ⟨.hbm, 125, rfl⟩
abbrev main_call1_v1 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_cst_16 : Ref sig .tc := ⟨.hbm, 131, rfl⟩
abbrev main_v103 : Ref sig .tc := ⟨.hbm, 132, rfl⟩
abbrev main_v104 : Ref sig .tc := ⟨.hbm, 133, rfl⟩
abbrev main_cst_17 : Ref sig .tc := ⟨.hbm, 134, rfl⟩
abbrev main_v105 : Ref sig .tc := ⟨.hbm, 135, rfl⟩
abbrev main_v106 : Ref sig .tc := ⟨.hbm, 136, rfl⟩
abbrev main_cst_18 : Ref sig .tc := ⟨.hbm, 137, rfl⟩
abbrev main_cst_19 : Ref sig .tc := ⟨.hbm, 138, rfl⟩
abbrev main_call2_v0 : Ref sig .tc := ⟨.hbm, 139, rfl⟩
abbrev main_call2_v1 : Ref sig .tc := ⟨.hbm, 140, rfl⟩
abbrev main_v107 : Ref sig .tc := ⟨.hbm, 141, rfl⟩
abbrev main_call3_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_20 : Ref sig .tc := ⟨.hbm, 147, rfl⟩
abbrev main_cst_21 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_22 : Ref sig .tc := ⟨.hbm, 158, rfl⟩
abbrev main_v116 : Ref sig .tc := ⟨.hbm, 159, rfl⟩
abbrev main_cst_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_24 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_v124 : Ref sig .tc := ⟨.hbm, 172, rfl⟩
abbrev main_cst_25 : Ref sig .tc := ⟨.hbm, 173, rfl⟩
abbrev main_v125 : Ref sig .tc := ⟨.hbm, 174, rfl⟩
abbrev main_cst_26 : Ref sig .tc := ⟨.hbm, 175, rfl⟩
abbrev main_v126 : Ref sig .tc := ⟨.hbm, 176, rfl⟩
abbrev main_v127 : Ref sig .tc := ⟨.hbm, 177, rfl⟩
abbrev main_cst_27 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_28 : Ref sig .tc := ⟨.hbm, 182, rfl⟩
abbrev main_call6_v0 : Ref sig .tc := ⟨.hbm, 183, rfl⟩
abbrev main_call6_v1 : Ref sig .tc := ⟨.hbm, 184, rfl⟩
abbrev main_v131 : Ref sig .tc := ⟨.hbm, 185, rfl⟩
abbrev main_cst_29 : Ref sig .tc := ⟨.hbm, 186, rfl⟩
abbrev main_v132 : Ref sig .tc := ⟨.hbm, 187, rfl⟩
abbrev main_v133 : Ref sig .tc := ⟨.hbm, 188, rfl⟩
abbrev main_cst_30 : Ref sig .tc := ⟨.hbm, 189, rfl⟩
abbrev main_v134 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_cst_32 : Ref sig .tc := ⟨.hbm, 195, rfl⟩
abbrev main_cst_33 : Ref sig .tc := ⟨.hbm, 196, rfl⟩
abbrev main_call7_v0 : Ref sig .tc := ⟨.hbm, 197, rfl⟩
abbrev main_call7_v1 : Ref sig .tc := ⟨.hbm, 198, rfl⟩
abbrev main_v138 : Ref sig .tc := ⟨.hbm, 199, rfl⟩
abbrev main_call8_v0 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_cst_34 : Ref sig .tc := ⟨.hbm, 205, rfl⟩
abbrev main_cst_35 : Ref sig .tc := ⟨.hbm, 206, rfl⟩
abbrev main_call9_v0 : Ref sig .tc := ⟨.hbm, 207, rfl⟩
abbrev main_call9_v1 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩

abbrev nD : Nat := 1
abbrev τ : Topo := Topo.v7x

variable {F : FTy → Type} [FloatOps F]
-- ==== Proof.KRuns.lean ====
/- What the runs of the kernel's body share: when the last token block's branch is taken, the staging and
   scratch memrefs, and the class's invariant with the scratch as memrefs. -/
module

public import proofs.«01_k».proof.Proof.Gen.Kernel.Skeleton
public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end as launched, from what the frame run leaves (proof data by relations). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      (Pipeline.RDat.FramePost.arr_in h c 0 rfl).trans ((hA c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 2 (mod 3) — by arithmetic of the point. -/
theorem hcond0_0 : ∀ t : Fin cfg0.N, cond0_0 (grid0.coords t) ↔ t.val % 3 = 2 :=
  (fun t => by
    have ht : t.val < 15 := Nat.lt_of_lt_of_eq t.isLt N_0
    have e0 : (grid0.coords t 0).val = t.val / 3 % 5 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5376 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5376 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5376 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x42x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5376x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x5376 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5x384 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x5376 .f32 := Memref.whole cc0_scratch0
abbrev scM0_1 : Memref sig .tc .vmem S128x128 .f32 := Memref.whole cc0_scratch1
abbrev scM0_2 : Memref sig .tc .vmem S42x8x128 .f32 := Memref.whole cc0_scratch2
abbrev scM0_3 : Memref sig .tc .vmem S2x3x8x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KRunA.lean ====
/- The kernel's body run whole in case A of its conditional, over the machine's words: every buffer ends at
   some contents. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5368000 in
/-- The body's triple IN CASE A (`scf.if` 0 not taken: points 0, 1, … 13: 10 of 15): on whole staging memrefs — the inputs' at their contents,
    the FORGOTTEN outputs' (6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S3 .f32) (harg2 : arg2.IsWhole) (arg3 : Memref sig .tc .vmem S1x3x128 .f32) (harg3 : arg3.IsWhole) (arg4 : Memref sig .tc .vmem S1x3x128 .f32) (harg4 : arg4.IsWhole) (arg5 : Memref sig .tc .vmem S1x128x5376 .bf16) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x128x5376 .fp8e4m3) (harg8 : arg8.IsWhole) (arg9 : Memref sig .tc .vmem S1x42x128 .f32) (harg9 : arg9.IsWhole) (arg10 : Memref sig .tc .vmem S1x5376x128 .fp8e4m3) (harg10 : arg10.IsWhole) (arg11 : Memref sig .tc .vmem S1x3x5376 .f32) (harg11 : arg11.IsWhole) (arg12 : Memref sig .tc .vmem S5x384 .f32) (harg12 : arg12.IsWhole) (arg13 : Memref sig .tc .vmem S5x384 .f32) (harg13 : arg13.IsWhole) (arg14 : Memref sig .tc .vmem S128x5376 .f32) (harg14 : arg14.IsWhole) (arg15 : Memref sig .tc .vmem S128x128 .f32) (harg15 : arg15.IsWhole) (arg16 : Memref sig .tc .vmem S42x8x128 .f32) (harg16 : arg16.IsWhole) (arg17 : Memref sig .tc .vmem S2x3x8x128 .f32) (harg17 : arg17.IsWhole) (hc0 : ¬cond0_0 i)
    (x0 : Vec F S3 .f32) (x1 : Vec F S1x3x128 .f32) (x2 : Vec F S1x3x128 .f32) (x3 : Vec F S1x128x5376 .bf16) (x4 : Vec F S1x5376 .f32) (x5 : Vec F S1x5376 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_ln_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ln_quant_eq_skeleton]; unfold cc0_ln_quant_skel
    simp only [k0_part156_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part157_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KRunB.lean ====
/- The kernel's body run whole in case B of its conditional, over the machine's words: every buffer ends at
   some contents. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6184000 in
/-- The body's triple IN CASE B (`scf.if` 0 taken: points 2, 5, 8, 11, 14): on whole staging memrefs — the inputs' at their contents,
    the FORGOTTEN outputs' (6, 7, 8, 9, 10, 11) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S3 .f32) (harg2 : arg2.IsWhole) (arg3 : Memref sig .tc .vmem S1x3x128 .f32) (harg3 : arg3.IsWhole) (arg4 : Memref sig .tc .vmem S1x3x128 .f32) (harg4 : arg4.IsWhole) (arg5 : Memref sig .tc .vmem S1x128x5376 .bf16) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x128x5376 .fp8e4m3) (harg8 : arg8.IsWhole) (arg9 : Memref sig .tc .vmem S1x42x128 .f32) (harg9 : arg9.IsWhole) (arg10 : Memref sig .tc .vmem S1x5376x128 .fp8e4m3) (harg10 : arg10.IsWhole) (arg11 : Memref sig .tc .vmem S1x3x5376 .f32) (harg11 : arg11.IsWhole) (arg12 : Memref sig .tc .vmem S5x384 .f32) (harg12 : arg12.IsWhole) (arg13 : Memref sig .tc .vmem S5x384 .f32) (harg13 : arg13.IsWhole) (arg14 : Memref sig .tc .vmem S128x5376 .f32) (harg14 : arg14.IsWhole) (arg15 : Memref sig .tc .vmem S128x128 .f32) (harg15 : arg15.IsWhole) (arg16 : Memref sig .tc .vmem S42x8x128 .f32) (harg16 : arg16.IsWhole) (arg17 : Memref sig .tc .vmem S2x3x8x128 .f32) (harg17 : arg17.IsWhole) (hc0 : cond0_0 i)
    (x0 : Vec F S3 .f32) (x1 : Vec F S1x3x128 .f32) (x2 : Vec F S1x3x128 .f32) (x3 : Vec F S1x128x5376 .bf16) (x4 : Vec F S1x5376 .f32) (x5 : Vec F S1x5376 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_ln_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ln_quant_eq_skeleton]; unfold cc0_ln_quant_skel
    simp only [k0_part156_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part157_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KFrame.lean ====
/- The frame of the kernel over the machine's words: it ends, its arguments unchanged, its counters at zero.
   Nothing is said of its outputs. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 15 := lt_of_lt_of_eq t.isLt (show cfg0.N = 15 from N_0)
  by_cases h0 : t.val % 3 = 2
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.Runs.lean ====
/- What the runs of the kernel's body share: when the last token block's branch is taken, the staging and
   scratch memrefs, and the class's invariant with the scratch as memrefs. -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end as launched, from what the frame run leaves (proof data by relations). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((hA c 3).trans (V_main_arg0 m c)),
      (Pipeline.RDat.FramePost.arr_in h c 0 rfl).trans ((hA c 0).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 2 (mod 3) — by arithmetic of the point. -/
theorem hcond0_0 : ∀ t : Fin cfg0.N, cond0_0 (grid0.coords t) ↔ t.val % 3 = 2 :=
  (fun t => by
    have ht : t.val < 15 := Nat.lt_of_lt_of_eq t.isLt N_0
    have e0 : (grid0.coords t 0).val = t.val / 3 % 5 := Pipeline.Grid.coords_val t 0 (by decide) rfl
    have e1 : (grid0.coords t 1).val = t.val / 1 % 3 := Pipeline.Grid.coords_val t 1 (by decide) rfl
    simp only [cond0_0, k0_cond1, e0, e1]
    word_cmp
   : ∀ t : Fin grid0.N, cond0_0 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5376 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5376 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x5376 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5376 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x42x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x5376x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x5376 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5x384 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x5376 .f32 := Memref.whole cc0_scratch0
abbrev scM0_1 : Memref sig .tc .vmem S128x128 .f32 := Memref.whole cc0_scratch1
abbrev scM0_2 : Memref sig .tc .vmem S42x8x128 .f32 := Memref.whole cc0_scratch2
abbrev scM0_3 : Memref sig .tc .vmem S2x3x8x128 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.Quant.lean ====
/- What one grid point of the kernel computes, as functions of the blocks it loads: the merged mean and
   reciprocal standard deviation of its 128 rows, the normalised block column by column, the two scales and
   the codes. Everything here is over any values `F`. -/
module

public import proofs.«01_k».proof.Proof.Runs

@[expose] public section

set_option maxRecDepth 16384

noncomputable section

namespace Cert.KernelIdeal.Quant

open Idealize.ShloMosaic Cert.KernelIdeal.Gen

variable {F : FTy → Type} [FloatOps F]

/-! ## The quantiser's scale, by words -/

section Words
variable {S : Shape}

/-- One step of the bisection: raise the exponent field `n` by `k` where `v` reaches the power it names. -/
def fieldStep (v : FVec F S .f32) (k : BitVec 32) (n : IVec S 32) : IVec S 32 :=
  select (cmpf .oge v (bitcastToFloat .f32 (shli (addi n (broadcast S k)) (broadcast S 23#32)))) (addi n (broadcast S k)) n

/-- The exponent field of `v`. -/
def fieldV (v : FVec F S .f32) : IVec S 32 :=
  fieldStep v 1#32 (fieldStep v 2#32 (fieldStep v 4#32 (fieldStep v 8#32
    (fieldStep v 16#32 (fieldStep v 32#32 (fieldStep v 64#32 (fieldStep v 128#32 (broadcast S 0#32))))))))

/-- The exponent field of the scale. -/
def codeV (v : FVec F S .f32) : IVec S 32 :=
  select (ori (cmpi .eq (fieldV v) (broadcast S 0#32)) (cmpi .eq (fieldV v) (broadcast S 255#32)))
    (broadcast S 127#32) (addi (fieldV v) (broadcast S 1#32))

/-- The scale. -/
def scaleV (v : FVec F S .f32) : FVec F S .f32 :=
  bitcastToFloat .f32 (shli (codeV v) (broadcast S 23#32))

/-- The inverse of the scale. -/
def invV (v : FVec F S .f32) : FVec F S .f32 :=
  bitcastToFloat .f32 (shli (subi (broadcast S 254#32) (codeV v)) (broadcast S 23#32))

end Words

/-- The scale of one word. -/
def scaleS (a : F .f32) : F .f32 := scaleV (S := ⟨0, ![]⟩) (fun _ => a) (fun i => i.elim0)
/-- The inverse scale of one word. -/
def invS (a : F .f32) : F .f32 := invV (S := ⟨0, ![]⟩) (fun _ => a) (fun i => i.elim0)

theorem scaleV_apply {S : Shape} (v : FVec F S .f32) (i : S.Idx) : scaleV v i = scaleS (v i) := rfl
theorem invV_apply {S : Shape} (v : FVec F S .f32) (i : S.Idx) : invV v i = invS (v i) := rfl

/-! ## What a grid point loads -/

/-- The pieces of its operands that the body loads: the peers' counts, means and squared deviations, and the 42
    column blocks of the rows and of the two parameters. -/
structure Loads (F : FTy → Type) where
  cnt : Fin 3 → F .f32
  pm : Fin 3 → FVec F S1x1x128 .f32
  pq : Fin 3 → FVec F S1x1x128 .f32
  x : Fin 42 → FVec F S1x128x128 .bf16
  g : Fin 42 → FVec F S1x128 .f32
  b : Fin 42 → FVec F S1x128 .f32

section Stats
variable (L : Loads F)

/-- Column block `j` of the rows, widened. -/
def xw (j : Fin 42) : FVec F S128x128 .f32 :=
  extf .f32 (shapeCast S128x128 (L.x j) shapeCasts_S1x128x128_S128x128) bitsLt_bf16_f32

/-- The first `n` of the 42 blocks `f` added up, lane by lane, in the kernel's order. -/
def accTo (f : Fin 42 → FVec F S128x128 .f32) : (n : ℕ) → n ≤ 42 → FVec F S128x128 .f32
  | 0, _ => broadcast S128x128 (Scalar.ofBits .f32 0x00000000#32)
  | n + 1, h => addf (accTo f n (Nat.le_of_succ_le h)) (f ⟨n, h⟩)

/-- The sum along the rows of the 42 blocks `f`. -/
def rowSum (f : Fin 42 → FVec F S128x128 .f32) : FVec F S128x1 .f32 :=
  shapeCast S128x1 (multiReduction .add [1] S128 (accTo f 42 (le_refl _)) 0x00000000#32 reduces_S128x128_S128 (.inl rfl) rfl)
    shapeCasts_S128_S128x1

/-- The rows' own mean. -/
def meanLoc : FVec F S128x1 .f32 :=
  divf (rowSum (xw L)) (broadcast S128x1 (Scalar.ofBits .f32 0x45A80000#32))

/-- The sum of squared deviations of the rows from `m`. -/
def m2Of (m : FVec F S128x1 .f32) : FVec F S128x1 .f32 :=
  rowSum fun j => mulf (subf (xw L j) (broadcastTo S128x128 m broadcasts_S128x1_S128x128)) (subf (xw L j) (broadcastTo S128x128 m broadcasts_S128x1_S128x128))

/-- The rows' own sum of squared deviations. -/
def m2Loc : FVec F S128x1 .f32 := m2Of L (meanLoc L)

/-- A column as a row. -/
def asRow (v : FVec F S128x1 .f32) : FVec F S1x128 .f32 :=
  extractStridedSlice S1x128 ![0, 0] (transpose S128x128 [1, 0] (broadcastTo S128x128
    (shapeCast S128x1 v shapeCasts_S128x1_S128x1) broadcasts_S128x1_S128x128) transposes_S128x128_p1_0_S128x128)
    slices_S128x128_o0_0_S1x128

/-- The merged mean of the 128 rows. -/
def meanV : FVec F S1x128 .f32 :=
  k0_pay83 (k0_pay65 (L.cnt 1)) (k0_pay66 (L.cnt 2)) (k0_pay67 (L.pm 0)) (k0_pay68 (L.pm 1)) (k0_pay69 (L.pm 2)) k0_pay73
    (k0_pay75 (L.cnt 0)) (k0_pay76 (meanLoc L) (L.pm 0))

/-- The reciprocal standard deviation of the 128 rows. -/
def rstdV : FVec F S1x128 .f32 :=
  k0_pay84 (k0_pay64 (L.cnt 0)) (k0_pay65 (L.cnt 1)) (k0_pay66 (L.cnt 2)) (k0_pay67 (L.pm 0)) (k0_pay68 (L.pm 1)) (k0_pay69 (L.pm 2))
    (k0_pay70 (L.pq 0)) (k0_pay71 (L.pq 1)) (k0_pay72 (L.pq 2)) k0_pay73 (asRow (m2Loc L)) (k0_pay75 (L.cnt 0))
    (k0_pay76 (meanLoc L) (L.pm 0))

/-- A row spread down the columns of a square, one value per row. -/
def downCols (v : FVec F S1x128 .f32) : FVec F S128x128 .f32 :=
  transpose S128x128 [1, 0] (broadcastTo S128x128 (shapeCast S1x128 v shapeCasts_S1x128_S1x128) broadcasts_S1x128_S128x128)
    transposes_S128x128_p1_0_S128x128

end Stats

/-! Below, `mc` and `rc` are the merged mean and reciprocal standard deviation, one value per row, spread down
    the columns. -/

variable (mc rc : FVec F S128x128 .f32) (L : Loads F)

/-- Column block `j` normalised. -/
def yV (j : Fin 42) : FVec F S128x128 .f32 :=
  k0_pay89 mc rc (L.x j) (L.g j) (L.b j)

/-- The largest magnitude of each row of block `j`. -/
def rowMax (j : Fin 42) : FVec F S128x1 .f32 :=
  shapeCast S128x1 (shapeCast S128x1 (multiReduction .maximumf [1] S128 (absf (yV mc rc L j)) 0xFF800000#32 reduces_S128x128_S128 (.inl rfl) rfl)
    shapeCasts_S128_S128x1) shapeCasts_S128x1_S128x1

/-- The largest magnitude of each column of block `j`, over 448. -/
def colMax (j : Fin 42) : FVec F S1x128 .f32 :=
  mulf (shapeCast S1x128 (multiReduction .maximumf [0] S128 (absf (yV mc rc L j)) 0xFF800000#32 reduces_S128x128_S128_2 (.inl rfl) rfl)
    shapeCasts_S128_S1x128) (broadcast S1x128 (Scalar.ofBits .f32 0x3B124925#32))

/-- Clipped to ±448 and coded. -/
def clipV (v : FVec F S128x128 .f32) : FVec F S128x128 .fp8e4m3 :=
  truncf .fp8e4m3 (minimumf (broadcast S128x128 (Scalar.ofBits .f32 0x43E00000#32))
    (maximumf (broadcast S128x128 (Scalar.ofBits .f32 0xC3E00000#32)) v)) bitsLt_fp8e4m3_f32

/-- The codes of block `j` by its column scales, transposed. -/
def qtV (j : Fin 42) : FVec F S1x128x128 .fp8e4m3 :=
  shapeCast S1x128x128 (truncf .fp8e4m3 (transpose S128x128 [1, 0] (extf .bf16
    (clipV (mulf (yV mc rc L j) (broadcastTo S128x128 (invV (colMax mc rc L j)) broadcasts_S1x128_S128x128))) bitsLt_fp8e4m3_bf16)
    transposes_S128x128_p1_0_S128x128) bitsLt_fp8e4m3_bf16) shapeCasts_S128x128_S1x128x128

/-- The column scales of block `j`. -/
def stV (j : Fin 42) : FVec F S1x1x128 .f32 :=
  shapeCast S1x1x128 (scaleV (colMax mc rc L j)) shapeCasts_S1x128_S1x1x128

/-- The row maxima over 448, as the kernel takes them from its buffer `R` of row maxima. -/
def over448 (R : FVec F S128x128 .f32) : FVec F S128x128 .f32 :=
  mulf R (broadcast S128x128 (Scalar.ofBits .f32 0x3B124925#32))

/-- The row scales of all blocks, from the buffer of row maxima. -/
def sOf (R : FVec F S128x128 .f32) : FVec F S1x42x128 .f32 :=
  shapeCast S1x42x128 (extractStridedSlice S42x128 ![0, 0]
    (transpose S128x128 [1, 0] (scaleV (over448 R)) transposes_S128x128_p1_0_S128x128) slices_S128x128_o0_0_S42x128)
    shapeCasts_S42x128_S1x42x128

/-- The codes of a block `y` by the inverse scales of its rows, which stand in column `o` of `I`. -/
def qOf (I : FVec F S128x128 .f32) (y : FVec F S128x128 .f32) (o : Fin 2 → ℕ) (h : Shape.Slices S128x128 o S128x1) : FVec F S1x128x128 .fp8e4m3 :=
  shapeCast S1x128x128 (clipV (mulf y (broadcastTo S128x128 (extractStridedSlice S128x1 o I h)
    broadcasts_S128x1_S128x128))) shapeCasts_S128x128_S1x128x128

end Cert.KernelIdeal.Quant

end
-- ==== Proof.Pieces.lean ====
/- The buffers a grid point of the kernel leaves, read as functions: each is stored in 42 pieces, one per column
   block, and read back at an index it is the value of the piece that covers the index. -/
module

public import proofs.«01_k».proof.Proof.Quant
public import Idealize.ShloMosaic.Lib.Pointwise
public import Idealize.ShloMosaic.Lib.WholeRead

@[expose] public section

set_option maxRecDepth 16384

noncomputable section

namespace Cert.KernelIdeal.Quant

open Idealize.ShloMosaic Cert.KernelIdeal.Gen

variable {F : FTy → Type} [FloatOps F]

/-! ## Lists of pieces -/

/-- `f 0, …, f (n - 1)`, the last first. -/
def piecesTo {α : Type} (f : Fin 42 → α) : (n : ℕ) → n ≤ 42 → List α
  | 0, _ => []
  | n + 1, h => f ⟨n, h⟩ :: piecesTo f n (Nat.le_of_succ_le h)

theorem mem_piecesTo {α : Type} (f : Fin 42 → α) (p : α) : ∀ (n : ℕ) (h : n ≤ 42),
    p ∈ piecesTo f n h ↔ ∃ j : Fin 42, j.val < n ∧ p = f j
  | 0, _ => by simp [piecesTo]
  | n + 1, h => by
    rw [piecesTo, List.mem_cons, mem_piecesTo f p n]
    constructor
    · rintro (rfl | ⟨j, hj, rfl⟩)
      · exact ⟨⟨n, h⟩, Nat.lt_succ_self n, rfl⟩
      · exact ⟨j, Nat.lt_succ_of_lt hj, rfl⟩
    · rintro ⟨j, hj, rfl⟩
      rcases Nat.lt_succ_iff_lt_or_eq.mp hj with hj | hj
      · exact .inr ⟨j, hj, rfl⟩
      · exact .inl (congrArg f (Fin.ext hj))

/-- All 42 of them. -/
abbrev pieces42 {α : Type} (f : Fin 42 → α) : List α := piecesTo f 42 (le_refl _)

theorem mem_pieces42 {α : Type} (f : Fin 42 → α) (p : α) : p ∈ pieces42 f ↔ ∃ j : Fin 42, p = f j := by
  rw [mem_piecesTo]
  exact ⟨fun ⟨j, _, h⟩ => ⟨j, h⟩, fun ⟨j, h⟩ => ⟨j, j.isLt, h⟩⟩

section Read
variable {κ : Kind} {sp : Space} {s : Shape} {e : EltTy} {Val : EltTy → Type}

theorem read_pieces42 (v : View sig κ sp s e) (b : v.ty.Contents Val) (f : Fin 42 → View.Piece Val s e) (G : s.Idx → Val e)
    (hG : ∀ j (x : (f j).1.shape.Idx), (f j).2 x = G ((f j).1.emb x)) (y : s.Idx) (j : Fin 42) (hy : y ∈ (f j).1.set) :
    v.read Val (v.writes Val b (pieces42 f)) y = G y :=
  View.read_writes_apply_of_pieces v b G _
    (fun p hp => by obtain ⟨k, rfl⟩ := (mem_pieces42 f p).mp hp; exact hG k) y
    ⟨f j, (mem_pieces42 f _).mpr ⟨j, rfl⟩, hy⟩

theorem read_pieces42_of_not_mem (v : View sig κ sp s e) (b : v.ty.Contents Val) (f : Fin 42 → View.Piece Val s e) (y : s.Idx)
    (hy : ∀ j, y ∉ (f j).1.set) : v.read Val (v.writes Val b (pieces42 f)) y = v.read Val b y :=
  View.read_writes_apply_of_forall_not_mem v b y _
    (fun p hp => by obtain ⟨k, rfl⟩ := (mem_pieces42 f p).mp hp; exact hy k)

end Read

/-! ## Column blocks and lanes -/

/-- The column block of a column. -/
def blkOf (n : ℕ) : Fin 42 := ⟨n / 128 % 42, Nat.mod_lt _ (by decide)⟩
/-- The lane of a column in its block. -/
def laneOf (n : ℕ) : Fin 128 := ⟨n % 128, Nat.mod_lt _ (by decide)⟩

theorem blkOf_add (j : Fin 42) (k : Fin 128) : blkOf (128 * j.val + k.val) = j := by
  apply Fin.ext; simp only [blkOf]; omega
theorem laneOf_add (j : Fin 42) (k : Fin 128) : laneOf (128 * j.val + k.val) = k := by
  apply Fin.ext; simp only [laneOf]; omega

/-- A value clipped to ±448 and coded. -/
def clipS (a : F .f32) : F .fp8e4m3 := clipV (fun _ => a) (ix2 0 0)

theorem clipV_apply (v : FVec F S128x128 .f32) (i : S128x128.Idx) : clipV v i = clipS (v i) := rfl

/-- The reciprocal of 448. -/
def k448 : F .f32 := Scalar.ofBits .f32 0x3B124925#32

/-! ## What a grid point loads, from the windows -/

section Window
variable (x0 : Vec F S3 .f32) (x1 x2 : Vec F S1x3x128 .f32) (x3 : Vec F S1x128x5376 .bf16) (x4 x5 : Vec F S1x5376 .f32)

/-- Column `128 j + k`. -/
def colAt (j : Fin 42) (k : Fin 128) : Fin 5376 := ⟨128 * j.val + k.val, by omega⟩

/-- The loads of a grid point whose windows hold `x0, …, x5`. -/
def loads : Loads F where
  cnt k := x0 (ix1 k)
  pm k := fun z => x1 (ix3 0 k (z 2))
  pq k := fun z => x2 (ix3 0 k (z 2))
  x j := fun z => x3 (ix3 0 (z 1) (colAt j (z 2)))
  g j := fun z => x4 (ix2 0 (colAt j (z 1)))
  b j := fun z => x5 (ix2 0 (colAt j (z 1)))

theorem inbCnt (k : Fin 3) : ∀ a, (![k.val] : Fin 1 → ℕ) a + S1.size a ≤ S3.size a := by
  intro a; fin_cases a; show k.val + 1 ≤ 3; omega
theorem inbPeer (k : Fin 3) : ∀ a, (![0, k.val, 0] : Fin 3 → ℕ) a + S1x1x128.size a ≤ S1x3x128.size a := by
  intro a; fin_cases a
  · show 0 + 1 ≤ 1; omega
  · show k.val + 1 ≤ 3; omega
  · show 0 + 128 ≤ 128; omega
theorem inbX (j : Fin 42) : ∀ a, (![0, 0, 128 * j.val] : Fin 3 → ℕ) a + S1x128x128.size a ≤ S1x128x5376.size a := by
  intro a; fin_cases a
  · show 0 + 1 ≤ 1; omega
  · show 0 + 128 ≤ 128; omega
  · show 128 * j.val + 128 ≤ 5376; omega
theorem inbP (j : Fin 42) : ∀ a, (![0, 128 * j.val] : Fin 2 → ℕ) a + S1x128.size a ≤ S1x5376.size a := by
  intro a; fin_cases a
  · show 0 + 1 ≤ 1; omega
  · show 128 * j.val + 128 ≤ 5376; omega
theorem inbY (j : Fin 42) : ∀ a, (![0, 128 * j.val] : Fin 2 → ℕ) a + S128x128.size a ≤ S128x5376.size a := by
  intro a; fin_cases a
  · show 0 + 128 ≤ 128; omega
  · show 128 * j.val + 128 ≤ 5376; omega
theorem inbR (j : Fin 42) : ∀ a, (![0, j.val] : Fin 2 → ℕ) a + S128x1.size a ≤ S128x128.size a := by
  intro a; fin_cases a
  · show 0 + 128 ≤ 128; omega
  · show j.val + 1 ≤ 128; omega
theorem inbQt (j : Fin 42) : ∀ a, (![0, 128 * j.val, 0] : Fin 3 → ℕ) a + S1x128x128.size a ≤ S1x5376x128.size a := by
  intro a; fin_cases a
  · show 0 + 1 ≤ 1; omega
  · show 128 * j.val + 128 ≤ 5376; omega
  · show 0 + 128 ≤ 128; omega

variable (arg2 : Memref sig .tc .smem S3 .f32) (harg2 : arg2.IsWhole) (arg3 : Memref sig .tc .vmem S1x3x128 .f32) (harg3 : arg3.IsWhole) (arg4 : Memref sig .tc .vmem S1x3x128 .f32) (harg4 : arg4.IsWhole) (arg5 : Memref sig .tc .vmem S1x128x5376 .bf16) (harg5 : arg5.IsWhole) (arg6 : Memref sig .tc .vmem S1x5376 .f32) (harg6 : arg6.IsWhole) (arg7 : Memref sig .tc .vmem S1x5376 .f32) (harg7 : arg7.IsWhole)

theorem loads_ext {a b : Loads F} (h1 : a.cnt = b.cnt) (h2 : a.pm = b.pm) (h3 : a.pq = b.pq) (h4 : a.x = b.x) (h5 : a.g = b.g)
    (h6 : a.b = b.b) : a = b := by
  cases a; cases b
  obtain rfl : _ = _ := h1; obtain rfl : _ = _ := h2; obtain rfl : _ = _ := h3
  obtain rfl : _ = _ := h4; obtain rfl : _ = _ := h5; obtain rfl : _ = _ := h6
  rfl

/-- The same as the body spells them: loads through the windows' memrefs. -/
def vloads : Loads F where
  cnt k := View.readAt (Elt F) arg2.view (Rect.unit (s := S3) ![k.val] S1.size (inbCnt k)).toLoadRect (harg2.unread x0) (Shape.Idx.first (s := S1) (by decide))
  pm k := View.readAt (Elt F) arg3.view (Rect.unit (s := S1x3x128) ![0, k.val, 0] S1x1x128.size (inbPeer k)).toLoadRect (harg3.unread x1)
  pq k := View.readAt (Elt F) arg4.view (Rect.unit (s := S1x3x128) ![0, k.val, 0] S1x1x128.size (inbPeer k)).toLoadRect (harg4.unread x2)
  x j := View.readAt (Elt F) arg5.view (Rect.unit (s := S1x128x5376) ![0, 0, 128 * j.val] S1x128x128.size (inbX j)).toLoadRect (harg5.unread x3)
  g j := View.readAt (Elt F) arg6.view (Rect.unit (s := S1x5376) ![0, 128 * j.val] S1x128.size (inbP j)).toLoadRect (harg6.unread x4)
  b j := View.readAt (Elt F) arg7.view (Rect.unit (s := S1x5376) ![0, 128 * j.val] S1x128.size (inbP j)).toLoadRect (harg7.unread x5)

theorem vloads_eq : vloads x0 x1 x2 x3 x4 x5 arg2 harg2 arg3 harg3 arg4 harg4 arg5 harg5 arg6 harg6 arg7 harg7
    = loads x0 x1 x2 x3 x4 x5 := by
  apply loads_ext
  · funext k
    refine (Memref.IsWhole.readAt_unread harg2 x0 _ _).trans (congrArg x0 (funext fun a => Fin.ext ?_))
    fin_cases a; rfl
  · funext k z
    refine (Memref.IsWhole.readAt_unread harg3 x1 _ _).trans (congrArg x1 (funext fun a => Fin.ext ?_))
    have h0 := (z 0).isLt; have h1 := (z 1).isLt
    change (z 0).val < 1 at h0; change (z 1).val < 1 at h1
    fin_cases a
    · show 0 + 1 * (z 0).val = 0; omega
    · show k.val + 1 * (z 1).val = k.val; omega
    · show 0 + 1 * (z 2).val = (z 2).val; omega
  · funext k z
    refine (Memref.IsWhole.readAt_unread harg4 x2 _ _).trans (congrArg x2 (funext fun a => Fin.ext ?_))
    have h0 := (z 0).isLt; have h1 := (z 1).isLt
    change (z 0).val < 1 at h0; change (z 1).val < 1 at h1
    fin_cases a
    · show 0 + 1 * (z 0).val = 0; omega
    · show k.val + 1 * (z 1).val = k.val; omega
    · show 0 + 1 * (z 2).val = (z 2).val; omega
  · funext k z
    refine (Memref.IsWhole.readAt_unread harg5 x3 _ _).trans (congrArg x3 (funext fun a => Fin.ext ?_))
    have h0 := (z 0).isLt
    change (z 0).val < 1 at h0
    fin_cases a
    · show 0 + 1 * (z 0).val = 0; omega
    · show 0 + 1 * (z 1).val = (z 1).val; omega
    · show 128 * k.val + 1 * (z 2).val = 128 * k.val + (z 2).val; omega
  · funext k z
    refine (Memref.IsWhole.readAt_unread harg6 x4 _ _).trans (congrArg x4 (funext fun a => Fin.ext ?_))
    have h0 := (z 0).isLt
    change (z 0).val < 1 at h0
    fin_cases a
    · show 0 + 1 * (z 0).val = 0; omega
    · show 128 * k.val + 1 * (z 1).val = 128 * k.val + (z 1).val; omega
  · funext k z
    refine (Memref.IsWhole.readAt_unread harg7 x5 _ _).trans (congrArg x5 (funext fun a => Fin.ext ?_))
    have h0 := (z 0).isLt
    change (z 0).val < 1 at h0
    fin_cases a
    · show 0 + 1 * (z 0).val = 0; omega
    · show 128 * k.val + 1 * (z 1).val = 128 * k.val + (z 1).val; omega

end Window

/-! ## What a grid point leaves -/

variable (mc rc : FVec F S128x128 .f32) (L : Loads F)

/-- The largest magnitude of row `r` over block `j`, over 448. -/
def rowV (j : Fin 42) (r : Fin 128) : F .f32 := FloatOps.mulf (rowMax mc rc L j (ix2 r 0)) (Scalar.ofBits .f32 0x3B124925#32)

/-- The row codes. -/
def qB : Vec F S1x128x5376 .fp8e4m3 := fun y =>
  clipS (FloatOps.mulf (yV mc rc L (blkOf (y 2).val) (ix2 (y 1) (laneOf (y 2).val))) (invS (rowV mc rc L (blkOf (y 2).val) (y 1))))
/-- The row scales. -/
def sB : Vec F S1x42x128 .f32 := fun y => scaleS (rowV mc rc L (y 1) (y 2))
/-- The column codes. -/
def qtB : Vec F S1x5376x128 .fp8e4m3 := fun y => qtV mc rc L (blkOf (y 1).val) (ix3 0 (laneOf (y 1).val) (y 2))
/-- The column scales kept beside what was there: row `i 1` of the scratch is replaced. -/
def upd16 (i : grid0.Coords) (d : Vec F S42x8x128 .f32) : Vec F S42x8x128 .f32 := fun y =>
  if (y 1).val = (i 1).val then scaleV (colMax mc rc L (y 0)) (ix2 0 (y 2)) else d y
/-- The statistics kept beside what was there: row `i 0` of plane `i 1` is replaced. -/
def upd17 (mv rv : FVec F S1x128 .f32) (i : grid0.Coords) (d : Vec F S2x3x8x128 .f32) : Vec F S2x3x8x128 .f32 := fun y =>
  if (y 1).val = (i 1).val ∧ (y 2).val = (i 0).val then (if (y 0).val = 0 then mv (ix2 0 (y 3)) else rv (ix2 0 (y 3))) else d y

/-- The pieces of the normalised block. -/
def yP (j : Fin 42) : View.Piece (Elt F) S128x5376 .f32 := ⟨Rect.unit (s := S128x5376) ![0, 128 * j.val] S128x128.size (inbY j), shapeCast S128x128 (yV mc rc L j) shapeCasts_S128x128_S128x128⟩
/-- The pieces of the row maxima. -/
def rP (j : Fin 42) : View.Piece (Elt F) S128x128 .f32 := ⟨Rect.unit (s := S128x128) ![0, j.val] S128x1.size (inbR j), rowMax mc rc L j⟩
/-- The pieces of the column codes. -/
def qtP (j : Fin 42) : View.Piece (Elt F) S1x5376x128 .fp8e4m3 := ⟨Rect.unit (s := S1x5376x128) ![0, 128 * j.val, 0] S1x128x128.size (inbQt j), qtV mc rc L j⟩

theorem slicesR (j : Fin 42) : Shape.Slices S128x128 ![0, j.val] S128x1 := by
  refine ⟨rfl, fun a => ?_⟩
  fin_cases a
  · show 0 + 128 ≤ 128; omega
  · show j.val + 1 ≤ 128; omega

/-- The pieces of the row codes, from the inverse scales `I` and the blocks `y` loaded back. -/
def qP (I : FVec F S128x128 .f32) (y : Fin 42 → FVec F S128x128 .f32) (j : Fin 42) : View.Piece (Elt F) S1x128x5376 .fp8e4m3 :=
  ⟨Rect.unit (s := S1x128x5376) ![0, 0, 128 * j.val] S1x128x128.size (inbX j), qOf I (y j) ![0, j.val] (slicesR j)⟩

/-- Where row `i 1` of the column scales' scratch begins for block `j`. -/
def off16 (i : grid0.Coords) (j : Fin 42) : Fin 3 → ℕ := ![j.val, (Scalar.indexCast (BitVec.ofNat 32 (i 1).val)).toNat, 0]

theorem off16_eq (i : grid0.Coords) (j : Fin 42) : off16 i j = ![j.val, (i 1).val, 0] := by
  have h : (i 1).val < 3 := (i 1).isLt
  unfold off16 Scalar.indexCast
  rw [BitVec.toNat_ofNat, Nat.mod_eq_of_lt (by omega)]

theorem inb16 (i : grid0.Coords) (j : Fin 42) : ∀ a, (off16 i j) a + S1x1x128.size a ≤ S42x8x128.size a := by
  have h : (i 1).val < 3 := (i 1).isLt
  rw [off16_eq]; intro a; fin_cases a
  · show j.val + 1 ≤ 42; omega
  · show (i 1).val + 1 ≤ 8; omega
  · show 0 + 128 ≤ 128; omega

/-- The pieces of the column scales' scratch. -/
def stP (i : grid0.Coords) (j : Fin 42) : View.Piece (Elt F) S42x8x128 .f32 :=
  ⟨Rect.unit (s := S42x8x128) (off16 i j) S1x1x128.size (inb16 i j), stV mc rc L j⟩

/-! ## Read back -/

section Back
variable {κ : Kind} {sp : Space}

/-- The normalised rows. -/
def yG : S128x5376.Idx → F .f32 := fun y => yV mc rc L (blkOf (y 1).val) (ix2 (y 0) (laneOf (y 1).val))

theorem yG_at (j : Fin 42) (x : S128x128.Idx) (y : S128x5376.Idx) (h0 : (y 0).val = (x 0).val) (h1 : (y 1).val = 128 * j.val + (x 1).val) :
    yG mc rc L y = yV mc rc L j x := by
  unfold yG
  rw [h1, blkOf_add j (x 1), laneOf_add j (x 1), show y 0 = x 0 from Fin.ext h0, ← eq_ix2 x]

theorem readY (v : View sig κ sp S128x5376 .f32) (j : Fin 42) :
    v.readCov (pieces42 (yP mc rc L)) (Rect.unit (s := S128x5376) ![0, 128 * j.val] S128x128.size (inbY j)).toLoadRect = yV mc rc L j := by
  have hG : ∀ (k : Fin 42) (x : S128x128.Idx), yG mc rc L ((yP mc rc L k).1.emb x) = yV mc rc L k x := fun k x =>
    yG_at mc rc L k x _ (by show 0 + 1 * (x 0).val = _; omega) (by show 128 * k.val + 1 * (x 1).val = _; omega)
  have hS : ∀ k, (yP mc rc L k).2 = yV mc rc L k := fun k => by
    unfold yP
    exact shapeCast_self (yV mc rc L k) shapeCasts_S128x128_S128x128
  rw [View.readCov_eq_canon']
  funext x
  exact (View.canon_apply_of_pieces (yG mc rc L) _
    (fun p hp => by obtain ⟨k, rfl⟩ := (mem_pieces42 _ p).mp hp; exact fun x => (congrFun (hS k) x).trans (hG k x).symm) _
    ⟨yP mc rc L j, (mem_pieces42 _ _).mpr ⟨j, rfl⟩, (yP mc rc L j).1.idx_mem x⟩).trans (hG j x)

/-- The row maxima, by column of the buffer. -/
def rG : S128x128.Idx → F .f32 := fun y => rowMax mc rc L (blkOf (128 * (y 1).val)) (ix2 (y 0) 0)

theorem rG_at (j : Fin 42) (r : Fin 128) (y : S128x128.Idx) (h0 : (y 0).val = r.val) (h1 : (y 1).val = j.val) :
    rG mc rc L y = rowMax mc rc L j (ix2 r 0) := by
  unfold rG
  have : blkOf (128 * (y 1).val) = j := by apply Fin.ext; simp only [blkOf]; omega
  rw [this, show y 0 = r from Fin.ext h0]

theorem rP_snd (k : Fin 42) : (rP mc rc L k).2 = rowMax mc rc L k := by
  unfold rP
  with_reducible rfl

theorem readR (v : View sig κ sp S128x128 .f32) (b : v.ty.Contents (Elt F)) (r : Fin 128) (j : Fin 42) :
    v.readAt (Elt F) (Rect.unit (s := S128x128) ![0, 0] S128x128.size inb_S128x128_S128x128_0_0).toLoadRect
      (v.writes (Elt F) b (pieces42 (rP mc rc L))) (ix2 r ⟨j.val, by omega⟩) = rowMax mc rc L j (ix2 r 0) := by
  have hG : ∀ (k : Fin 42) (x : S128x1.Idx), rowMax mc rc L k x = rG mc rc L ((rP mc rc L k).1.emb x) := by
    intro k x
    have hx : (x 1).val < 1 := (x 1).isLt
    have hx2 : x = ix2 (x 0) 0 := (eq_ix2 x).trans (congrArg (ix2 (x 0)) (Fin.ext (by show (x 1).val = 0; omega)))
    have hb := rG_at mc rc L k (x 0) ((rP mc rc L k).1.emb x) (by show 0 + 1 * (x 0).val = _; omega)
      (by show k.val + 1 * (x 1).val = _; omega)
    rw [hb]
    generalize rowMax mc rc L k = f
    exact congrArg f hx2
  refine (read_pieces42 v b (rP mc rc L) (rG mc rc L) (fun k x => (congrFun (rP_snd mc rc L k) x).trans (hG k x)) _ j ?_).trans (rG_at mc rc L j r _ ?_ ?_)
  · refine (Rect.mem_set_unit (inb := inbR j)).mpr fun a => ?_
    fin_cases a
    · show 0 ≤ 0 + 1 * r.val ∧ 0 + 1 * r.val < 0 + 128; omega
    · show j.val ≤ 0 + 1 * j.val ∧ 0 + 1 * j.val < j.val + 1; omega
  · show 0 + 1 * r.val = _; omega
  · show 0 + 1 * j.val = _; omega

theorem qOf_apply (I y : FVec F S128x128 .f32) (j : Fin 42) (u : Fin 1) (r k : Fin 128) :
    qOf I y ![0, j.val] (slicesR j) (ix3 u r k) = clipS (FloatOps.mulf (y (ix2 r k)) (I (ix2 r ⟨j.val, by omega⟩))) := by
  unfold qOf
  pointwise [clipV_apply]

theorem invR (R : FVec F S128x128 .f32) (hR : ∀ r (j : Fin 42), R (ix2 r ⟨j.val, by omega⟩) = rowMax mc rc L j (ix2 r 0))
    (r : Fin 128) (j : Fin 42) : invV (over448 R) (ix2 r ⟨j.val, by omega⟩) = invS (rowV mc rc L j r) :=
  congrArg (fun a => invS (FloatOps.mulf a (Scalar.ofBits .f32 0x3B124925#32))) (hR r j)

theorem sOf_apply (R : FVec F S128x128 .f32) (u : Fin 1) (j : Fin 42) (r : Fin 128) :
    sOf R (ix3 u j r) = scaleS (FloatOps.mulf (R (ix2 r ⟨j.val, by omega⟩)) (Scalar.ofBits .f32 0x3B124925#32)) := by
  unfold sOf
  pointwise [scaleV_apply]
  rfl

theorem stV_apply (j : Fin 42) (u w : Fin 1) (k : Fin 128) :
    stV mc rc L j (ix3 u w k) = scaleV (colMax mc rc L j) (ix2 0 k) := by
  unfold stV
  pointwise

theorem read_s (v : View sig κ sp S1x42x128 .f32) (b : v.ty.Contents (Elt F)) (R : FVec F S128x128 .f32)
    (hR : ∀ r (j : Fin 42), R (ix2 r ⟨j.val, by omega⟩) = rowMax mc rc L j (ix2 r 0)) (inb) :
    v.read (Elt F) (v.writes (Elt F) b [⟨Rect.unit (s := S1x42x128) ![0, 0, 0] S1x42x128.size inb, sOf R⟩]) = sB mc rc L := by
  funext y
  refine View.read_writes_apply_of_pieces v b (sB mc rc L) _ ?_ y ⟨_, List.mem_singleton.mpr rfl, ?_⟩
  · intro p hp
    obtain rfl := List.mem_singleton.mp hp
    intro (x : S1x42x128.Idx)
    have e : (Rect.unit (s := S1x42x128) ![0, 0, 0] S1x42x128.size inb).emb x = x := by
      funext a; apply Fin.ext; fin_cases a
      · exact (Nat.zero_add _).trans (Nat.one_mul _)
      · exact (Nat.zero_add _).trans (Nat.one_mul _)
      · exact (Nat.zero_add _).trans (Nat.one_mul _)
    show sOf R x = sB mc rc L _
    rw [e]
    refine (congrArg (sOf R) (eq_ix3 x)).trans ((sOf_apply R _ _ _).trans ?_)
    exact congrArg (fun a => scaleS (FloatOps.mulf a (Scalar.ofBits .f32 0x3B124925#32))) (hR (x 2) (x 1))
  · refine (Rect.mem_set_unit (inb := inb)).mpr fun a => ?_
    fin_cases a
    · exact ⟨Nat.zero_le _, by show (y 0).val < 0 + 1; have := (y 0).isLt; change (y 0).val < 1 at this; omega⟩
    · exact ⟨Nat.zero_le _, by show (y 1).val < 0 + 42; have := (y 1).isLt; change (y 1).val < 42 at this; omega⟩
    · exact ⟨Nat.zero_le _, by show (y 2).val < 0 + 128; have := (y 2).isLt; change (y 2).val < 128 at this; omega⟩

theorem read_q (v : View sig κ sp S1x128x5376 .fp8e4m3) (b : v.ty.Contents (Elt F)) (I : FVec F S128x128 .f32)
    (Y : Fin 42 → FVec F S128x128 .f32) (hI : ∀ r (j : Fin 42), I (ix2 r ⟨j.val, by omega⟩) = invS (rowV mc rc L j r))
    (hY : ∀ j, Y j = yV mc rc L j) : v.read (Elt F) (v.writes (Elt F) b (pieces42 (qP I Y))) = qB mc rc L := by
  funext y
  have hlt : (y 2).val < 5376 := (y 2).isLt
  have h0 : (y 0).val < 1 := (y 0).isLt
  have h1 : (y 1).val < 128 := (y 1).isLt
  refine read_pieces42 v b (qP I Y) (qB mc rc L) ?_ y (blkOf (y 2).val) ((Rect.mem_set_unit (inb := inbX _)).mpr ?_)
  · intro k (x : S1x128x128.Idx)
    have e1 : ((qP I Y k).1.emb x 1).val = (x 1).val := by show 0 + 1 * (x 1).val = _; omega
    have e2 : ((qP I Y k).1.emb x 2).val = 128 * k.val + (x 2).val := by show 128 * k.val + 1 * (x 2).val = _; omega
    show qOf I (Y k) ![0, k.val] (slicesR k) x = qB mc rc L ((qP I Y k).1.emb x)
    unfold qB
    rw [e2, blkOf_add k (x 2), laneOf_add k (x 2), show (qP I Y k).1.emb x 1 = x 1 from Fin.ext e1]
    refine (congrArg (qOf I (Y k) ![0, k.val] (slicesR k)) (eq_ix3 x)).trans ((qOf_apply I (Y k) k _ _ _).trans ?_)
    rw [hY]
    exact congrArg (fun a => clipS (FloatOps.mulf (yV mc rc L k (ix2 (x 1) (x 2))) a)) (hI (x 1) k)
  · intro a
    fin_cases a
    · exact ⟨Nat.zero_le _, by show (y 0).val < 0 + 1; omega⟩
    · exact ⟨Nat.zero_le _, by show (y 1).val < 0 + 128; omega⟩
    · show 128 * ((y 2).val / 128 % 42) ≤ (y 2).val ∧ (y 2).val < 128 * ((y 2).val / 128 % 42) + 128; omega

theorem read_qt (v : View sig κ sp S1x5376x128 .fp8e4m3) (b : v.ty.Contents (Elt F)) :
    v.read (Elt F) (v.writes (Elt F) b (pieces42 (qtP mc rc L))) = qtB mc rc L := by
  funext y
  have hlt : (y 1).val < 5376 := (y 1).isLt
  have h0 : (y 0).val < 1 := (y 0).isLt
  have h2 : (y 2).val < 128 := (y 2).isLt
  refine read_pieces42 v b (qtP mc rc L) (qtB mc rc L) ?_ y (blkOf (y 1).val) ((Rect.mem_set_unit (inb := inbQt _)).mpr ?_)
  · intro k (x : S1x128x128.Idx)
    have hx : (x 0).val < 1 := (x 0).isLt
    have e1 : ((qtP mc rc L k).1.emb x 1).val = 128 * k.val + (x 1).val := by show 128 * k.val + 1 * (x 1).val = _; omega
    have e2 : ((qtP mc rc L k).1.emb x 2).val = (x 2).val := by show 0 + 1 * (x 2).val = _; omega
    show qtV mc rc L k x = qtB mc rc L ((qtP mc rc L k).1.emb x)
    unfold qtB
    rw [e1, blkOf_add k (x 1), laneOf_add k (x 1), show (qtP mc rc L k).1.emb x 2 = x 2 from Fin.ext e2]
    generalize qtV mc rc L k = f
    exact congrArg f ((eq_ix3 x).trans (congrArg (fun u => ix3 u (x 1) (x 2)) (Fin.ext (by show (x 0).val = 0; omega))))
  · intro a
    fin_cases a
    · exact ⟨Nat.zero_le _, by show (y 0).val < 0 + 1; omega⟩
    · show 128 * ((y 1).val / 128 % 42) ≤ (y 1).val ∧ (y 1).val < 128 * ((y 1).val / 128 % 42) + 128; omega
    · exact ⟨Nat.zero_le _, by show (y 2).val < 0 + 128; omega⟩

theorem read_16 (v : View sig κ sp S42x8x128 .f32) (b : v.ty.Contents (Elt F)) (i : grid0.Coords) :
    v.read (Elt F) (v.writes (Elt F) b (pieces42 (stP mc rc L i))) = upd16 mc rc L i (v.read (Elt F) b) := by
  funext y
  have hlt : (y 0).val < 42 := (y 0).isLt
  have h2 : (y 2).val < 128 := (y 2).isLt
  have hmem : ∀ j : Fin 42, y ∈ (stP mc rc L i j).1.set ↔ (y 0).val = j.val ∧ (y 1).val = (i 1).val := by
    intro j
    refine (Rect.mem_set_unit (inb := inb16 i j)).trans ?_
    rw [off16_eq]
    constructor
    · intro h
      have a0 : j.val ≤ (y 0).val ∧ (y 0).val < j.val + 1 := h 0
      have a1 : (i 1).val ≤ (y 1).val ∧ (y 1).val < (i 1).val + 1 := h 1
      omega
    · rintro ⟨a0, a1⟩ a
      fin_cases a
      · show j.val ≤ (y 0).val ∧ (y 0).val < j.val + 1; omega
      · show (i 1).val ≤ (y 1).val ∧ (y 1).val < (i 1).val + 1; omega
      · show 0 ≤ (y 2).val ∧ (y 2).val < 0 + 128; omega
  by_cases h : (y 1).val = (i 1).val
  · refine read_pieces42 v b (stP mc rc L i) _ ?_ y (y 0) ((hmem _).mpr ⟨rfl, h⟩)
    intro k (x : S1x1x128.Idx)
    have x0 : (x 0).val < 1 := (x 0).isLt
    have x1 : (x 1).val < 1 := (x 1).isLt
    have hoff := off16_eq i k
    have e0 : ((stP mc rc L i k).1.emb x 0).val = k.val := by
      show (off16 i k) 0 + 1 * (x 0).val = _; rw [hoff]; show k.val + 1 * (x 0).val = _; omega
    have e1 : ((stP mc rc L i k).1.emb x 1).val = (i 1).val := by
      show (off16 i k) 1 + 1 * (x 1).val = _; rw [hoff]; show (i 1).val + 1 * (x 1).val = _; omega
    have e2 : ((stP mc rc L i k).1.emb x 2).val = (x 2).val := by
      show (off16 i k) 2 + 1 * (x 2).val = _; rw [hoff]; show 0 + 1 * (x 2).val = _; omega
    show stV mc rc L k x = upd16 mc rc L i _ ((stP mc rc L i k).1.emb x)
    unfold upd16
    rw [if_pos e1, show (stP mc rc L i k).1.emb x 0 = k from Fin.ext e0, show (stP mc rc L i k).1.emb x 2 = x 2 from Fin.ext e2]
    exact (congrArg (stV mc rc L k) (eq_ix3 x)).trans (stV_apply mc rc L k _ _ _)
  · rw [read_pieces42_of_not_mem v b _ y (fun j hj => h ((hmem j).mp hj).2)]
    exact (if_neg h).symm

/-- A row stored as a block of the statistics reads at its lane. -/
theorem stat4_apply (f : FVec F S1x128 .f32) (u w z : Fin 1) (k : Fin 128) :
    shapeCast S1x1x1x128 f shapeCasts_S1x128_S1x1x1x128 (ix4 u w z k) = f (ix2 0 k) := by
  pointwise

theorem read_17 (v : View sig κ sp S2x3x8x128 .f32) (b : v.ty.Contents (Elt F)) (i : grid0.Coords) (P Q : FVec F S1x1x1x128 .f32)
    (mv rv : FVec F S1x128 .f32) (hP : ∀ u w z k, P (ix4 u w z k) = rv (ix2 0 k)) (hQ : ∀ u w z k, Q (ix4 u w z k) = mv (ix2 0 k)) :
    v.read (Elt F) (v.writes (Elt F) b [⟨Rect.unit (s := S2x3x8x128) (k0_off2 i) S1x1x1x128.size (k0_off2_inb i), P⟩,
      ⟨Rect.unit (s := S2x3x8x128) (k0_off1 i) S1x1x1x128.size (k0_off1_inb i), Q⟩]) = upd17 mv rv i (v.read (Elt F) b) := by
  funext y
  have hy0 : (y 0).val < 2 := (y 0).isLt
  have hy3 : (y 3).val < 128 := (y 3).isLt
  have hm2 : y ∈ (Rect.unit (s := S2x3x8x128) (k0_off2 i) S1x1x1x128.size (k0_off2_inb i)).set
      ↔ (y 0).val = 1 ∧ (y 1).val = (i 1).val ∧ (y 2).val = (i 0).val := by
    refine (Rect.mem_set_unit (inb := k0_off2_inb i)).trans ?_
    rw [k0_off2_eq]
    constructor
    · intro h
      have a0 : 1 ≤ (y 0).val ∧ (y 0).val < 1 + 1 := h 0
      have a1 : (i 1).val ≤ (y 1).val ∧ (y 1).val < (i 1).val + 1 := h 1
      have a2 : (i 0).val ≤ (y 2).val ∧ (y 2).val < (i 0).val + 1 := h 2
      omega
    · rintro ⟨a0, a1, a2⟩ a
      fin_cases a
      · show 1 ≤ (y 0).val ∧ (y 0).val < 1 + 1; omega
      · show (i 1).val ≤ (y 1).val ∧ (y 1).val < (i 1).val + 1; omega
      · show (i 0).val ≤ (y 2).val ∧ (y 2).val < (i 0).val + 1; omega
      · show 0 ≤ (y 3).val ∧ (y 3).val < 0 + 128; omega
  have hm1 : y ∈ (Rect.unit (s := S2x3x8x128) (k0_off1 i) S1x1x1x128.size (k0_off1_inb i)).set
      ↔ (y 0).val = 0 ∧ (y 1).val = (i 1).val ∧ (y 2).val = (i 0).val := by
    refine (Rect.mem_set_unit (inb := k0_off1_inb i)).trans ?_
    rw [k0_off1_eq]
    constructor
    · intro h
      have a0 : 0 ≤ (y 0).val ∧ (y 0).val < 0 + 1 := h 0
      have a1 : (i 1).val ≤ (y 1).val ∧ (y 1).val < (i 1).val + 1 := h 1
      have a2 : (i 0).val ≤ (y 2).val ∧ (y 2).val < (i 0).val + 1 := h 2
      omega
    · rintro ⟨a0, a1, a2⟩ a
      fin_cases a
      · show 0 ≤ (y 0).val ∧ (y 0).val < 0 + 1; omega
      · show (i 1).val ≤ (y 1).val ∧ (y 1).val < (i 1).val + 1; omega
      · show (i 0).val ≤ (y 2).val ∧ (y 2).val < (i 0).val + 1; omega
      · show 0 ≤ (y 3).val ∧ (y 3).val < 0 + 128; omega
  by_cases h : (y 1).val = (i 1).val ∧ (y 2).val = (i 0).val
  · refine View.read_writes_apply_of_pieces v b
      (fun y => if (y 0).val = 0 then mv (ix2 0 (y 3)) else rv (ix2 0 (y 3))) _ ?_ y ?_ |>.trans (if_pos h).symm
    · intro p hp
      rcases List.mem_cons.mp hp with rfl | hp
      · intro (x : S1x1x1x128.Idx)
        have x0 : (x 0).val < 1 := (x 0).isLt
        have e0 : ((Rect.unit (s := S2x3x8x128) (k0_off2 i) S1x1x1x128.size (k0_off2_inb i)).emb x 0).val = 1 := by
          show (k0_off2 i) 0 + 1 * (x 0).val = _; rw [k0_off2_eq]; show 1 + 1 * (x 0).val = _; omega
        have e3 : ((Rect.unit (s := S2x3x8x128) (k0_off2 i) S1x1x1x128.size (k0_off2_inb i)).emb x 3).val = (x 3).val := by
          show (k0_off2 i) 3 + 1 * (x 3).val = _; rw [k0_off2_eq]; show 0 + 1 * (x 3).val = _; omega
        show P x = if _ then _ else _
        rw [if_neg (by rw [e0]; decide), show (Rect.unit (s := S2x3x8x128) (k0_off2 i) S1x1x1x128.size (k0_off2_inb i)).emb x 3 = x 3 from Fin.ext e3]
        exact (congrArg P (eq_ix4 x)).trans (hP _ _ _ _)
      · obtain rfl := List.mem_singleton.mp hp
        intro (x : S1x1x1x128.Idx)
        have x0 : (x 0).val < 1 := (x 0).isLt
        have e0 : ((Rect.unit (s := S2x3x8x128) (k0_off1 i) S1x1x1x128.size (k0_off1_inb i)).emb x 0).val = 0 := by
          show (k0_off1 i) 0 + 1 * (x 0).val = _; rw [k0_off1_eq]; show 0 + 1 * (x 0).val = _; omega
        have e3 : ((Rect.unit (s := S2x3x8x128) (k0_off1 i) S1x1x1x128.size (k0_off1_inb i)).emb x 3).val = (x 3).val := by
          show (k0_off1 i) 3 + 1 * (x 3).val = _; rw [k0_off1_eq]; show 0 + 1 * (x 3).val = _; omega
        show Q x = if _ then _ else _
        rw [if_pos e0, show (Rect.unit (s := S2x3x8x128) (k0_off1 i) S1x1x1x128.size (k0_off1_inb i)).emb x 3 = x 3 from Fin.ext e3]
        exact (congrArg Q (eq_ix4 x)).trans (hQ _ _ _ _)
    · rcases Nat.lt_succ_iff_lt_or_eq.mp hy0 with h0 | h0
      · exact ⟨_, List.mem_cons_of_mem _ (List.mem_singleton.mpr rfl), hm1.mpr ⟨by omega, h.1, h.2⟩⟩
      · exact ⟨_, List.mem_cons_self, hm2.mpr ⟨h0, h.1, h.2⟩⟩
  · refine (View.read_writes_apply_of_forall_not_mem v b y _ ?_).trans (if_neg h).symm
    intro p hp
    rcases List.mem_cons.mp hp with rfl | hp
    · exact fun hy => h (hm2.mp hy).2
    · obtain rfl := List.mem_singleton.mp hp
      exact fun hy => h (hm1.mp hy).2

end Back

/-! ## What a grid point leaves, from its windows -/

section Point
variable (x0 : Vec F S3 .f32) (x1 x2 : Vec F S1x3x128 .f32) (x3 : Vec F S1x128x5376 .bf16) (x4 x5 : Vec F S1x5376 .f32)

/-- The merged mean of each row, down the columns. -/
def mcL (L : Loads F) : FVec F S128x128 .f32 := downCols (meanV L)
/-- The reciprocal standard deviation of each row, down the columns. -/
def rcL (L : Loads F) : FVec F S128x128 .f32 := downCols (rstdV L)

/-- The row codes of a point. -/
def qX : Vec F S1x128x5376 .fp8e4m3 := qB (mcL (loads x0 x1 x2 x3 x4 x5)) (rcL (loads x0 x1 x2 x3 x4 x5)) (loads x0 x1 x2 x3 x4 x5)
/-- The row scales of a point. -/
def sX : Vec F S1x42x128 .f32 := sB (mcL (loads x0 x1 x2 x3 x4 x5)) (rcL (loads x0 x1 x2 x3 x4 x5)) (loads x0 x1 x2 x3 x4 x5)
/-- The column codes of a point. -/
def qtX : Vec F S1x5376x128 .fp8e4m3 := qtB (mcL (loads x0 x1 x2 x3 x4 x5)) (rcL (loads x0 x1 x2 x3 x4 x5)) (loads x0 x1 x2 x3 x4 x5)
/-- The scratch of column scales after a point. -/
def u16X (i : grid0.Coords) (d : Vec F S42x8x128 .f32) : Vec F S42x8x128 .f32 :=
  upd16 (mcL (loads x0 x1 x2 x3 x4 x5)) (rcL (loads x0 x1 x2 x3 x4 x5)) (loads x0 x1 x2 x3 x4 x5) i d
/-- The scratch of statistics after a point. -/
def u17X (i : grid0.Coords) (d : Vec F S2x3x8x128 .f32) : Vec F S2x3x8x128 .f32 :=
  upd17 (meanV (loads x0 x1 x2 x3 x4 x5)) (rstdV (loads x0 x1 x2 x3 x4 x5)) i d

end Point

/-- The column scales of a group of rows, out of the scratch. -/
def stOut (d : Vec F S42x8x128 .f32) : Vec F S1x3x5376 .f32 := fun y =>
  d (ix3 (blkOf (y 2).val) ⟨(y 1).val, Nat.lt_trans (y 1).isLt (by decide)⟩ (laneOf (y 2).val))
/-- A plane of the statistics, out of the scratch. -/
def statOut (p : Fin 2) (d : Vec F S2x3x8x128 .f32) : Vec F S5x384 .f32 := fun y =>
  d (ix4 p ⟨(y 1).val / 128, Nat.div_lt_of_lt_mul (y 1).isLt⟩ ⟨(y 0).val, Nat.lt_trans (y 0).isLt (by decide)⟩ (laneOf (y 1).val))

end Cert.KernelIdeal.Quant

end
-- ==== Proof.RunA.lean ====
/- The kernel's body run whole, at the points that do not close a group of rows: what every buffer
   ends at, as a function of the windows and of the scratch it started from. -/
module

public import proofs.«01_k».proof.Proof.Pieces

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Quant
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5368000 in
/-- The body on whole staging memrefs, its branch not taken: the inputs' end as they were, the codes' and
    row scales' hold the point's, and row and statistics scratch are the old ones with this point's row replaced. -/
theorem kernelRun0_A (c : Dev nD) (i : grid0.Coords) (arg2 : Memref sig .tc .smem S3 .f32) (harg2 : arg2.IsWhole) (arg3 : Memref sig .tc .vmem S1x3x128 .f32) (harg3 : arg3.IsWhole) (arg4 : Memref sig .tc .vmem S1x3x128 .f32) (harg4 : arg4.IsWhole) (arg5 : Memref sig .tc .vmem S1x128x5376 .bf16) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x128x5376 .fp8e4m3) (harg8 : arg8.IsWhole) (arg9 : Memref sig .tc .vmem S1x42x128 .f32) (harg9 : arg9.IsWhole) (arg10 : Memref sig .tc .vmem S1x5376x128 .fp8e4m3) (harg10 : arg10.IsWhole) (arg11 : Memref sig .tc .vmem S1x3x5376 .f32) (harg11 : arg11.IsWhole) (arg12 : Memref sig .tc .vmem S5x384 .f32) (harg12 : arg12.IsWhole) (arg13 : Memref sig .tc .vmem S5x384 .f32) (harg13 : arg13.IsWhole) (arg14 : Memref sig .tc .vmem S128x5376 .f32) (harg14 : arg14.IsWhole) (arg15 : Memref sig .tc .vmem S128x128 .f32) (harg15 : arg15.IsWhole) (arg16 : Memref sig .tc .vmem S42x8x128 .f32) (harg16 : arg16.IsWhole) (arg17 : Memref sig .tc .vmem S2x3x8x128 .f32) (harg17 : arg17.IsWhole) (hc0 : ¬cond0_0 i)
    (x0 : Vec F S3 .f32) (x1 : Vec F S1x3x128 .f32) (x2 : Vec F S1x3x128 .f32) (x3 : Vec F S1x128x5376 .bf16) (x4 : Vec F S1x5376 .f32) (x5 : Vec F S1x5376 .f32) (x16 : Vec F S42x8x128 .f32) (x17 : Vec F S2x3x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (qX x0 x1 x2 x3 x4 x5) ∗ owns (c : Thread nD τ) arg9 fullShare (sX x0 x1 x2 x3 x4 x5) ∗ owns (c : Thread nD τ) arg10 fullShare (qtX x0 x1 x2 x3 x4 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (u16X x0 x1 x2 x3 x4 x5 i x16) ∗ owns (c : Thread nD τ) arg17 fullShare (u17X x0 x1 x2 x3 x4 x5 i x17)) -∗ K ⟨⟩))
          ⊢ wp frame (wpE (defs₀ (F := F)) Variants.none c none) E (cc0_ln_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ln_quant_eq_skeleton]; unfold cc0_ln_quant_skel
    simp only [k0_part156_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part157_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg16.eq_unread hfs2; obtain rfl := harg17.eq_unread hfs3
    sl_exec (disch := first | sl_exact hc0)
    sl_step
    have e7 : kernelRun0_A.sl.r_7 c arg5 harg5 x3 = meanLoc (vloads x0 x1 x2 x3 x4 x5 arg2 harg2 arg3 harg3 arg4 harg4 arg5 harg5 arg6 harg6 arg7 harg7) := by
      unfold kernelRun0_A.sl.r_7
      exact rfl
    have e34 : kernelRun0_A.sl.r_34 c arg5 harg5 x3 = asRow (m2Loc (vloads x0 x1 x2 x3 x4 x5 arg2 harg2 arg3 harg3 arg4 harg4 arg5 harg5 arg6 harg6 arg7 harg7)) := by
      refine (show _ = asRow (m2Of (vloads x0 x1 x2 x3 x4 x5 arg2 harg2 arg3 harg3 arg4 harg4 arg5 harg5 arg6 harg6 arg7 harg7) (kernelRun0_A.sl.r_7 c arg5 harg5 x3)) from ?_).trans (by rw [e7]; rfl)
      unfold kernelRun0_A.sl.r_34
      exact rfl
    have e36 : kernelRun0_A.sl.r_36 c arg3 harg3 arg5 harg5 x1 x3 = k0_pay76 (meanLoc (vloads x0 x1 x2 x3 x4 x5 arg2 harg2 arg3 harg3 arg4 harg4 arg5 harg5 arg6 harg6 arg7 harg7)) (((vloads x0 x1 x2 x3 x4 x5 arg2 harg2 arg3 harg3 arg4 harg4 arg5 harg5 arg6 harg6 arg7 harg7)).pm 0) := by
      unfold kernelRun0_A.sl.r_36
      rw [e7]
      exact rfl
    have e37 : (kernelRun0_A.sl.r_37 c arg2 harg2 arg3 harg3 arg5 harg5 x0 x1 x3) = mcL (vloads x0 x1 x2 x3 x4 x5 arg2 harg2 arg3 harg3 arg4 harg4 arg5 harg5 arg6 harg6 arg7 harg7) := by
      unfold kernelRun0_A.sl.r_37
      rw [e36]
      exact rfl
    have e38 : (kernelRun0_A.sl.r_38 c arg2 harg2 arg3 harg3 arg4 harg4 arg5 harg5 x0 x1 x2 x3) = rcL (vloads x0 x1 x2 x3 x4 x5 arg2 harg2 arg3 harg3 arg4 harg4 arg5 harg5 arg6 harg6 arg7 harg7) := by
      unfold kernelRun0_A.sl.r_38
      rw [e34, e36]
      exact rfl
    have eHS0 : kernelRun0_A.sl.HS0_42 c arg2 harg2 arg3 harg3 arg4 harg4 arg5 harg5 arg6 harg6 arg7 harg7 x0 x1 x2 x3 x4 x5 = pieces42 (yP (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7)) := by
      unfold kernelRun0_A.sl.HS0_42
      exact rfl
    have eHS1 : kernelRun0_A.sl.HS1_42 c arg2 harg2 arg3 harg3 arg4 harg4 arg5 harg5 arg6 harg6 arg7 harg7 x0 x1 x2 x3 x4 x5 = pieces42 (rP (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7)) := by
      unfold kernelRun0_A.sl.HS1_42
      exact rfl
    have e300 : kernelRun0_A.sl.r_300 c arg2 harg2 arg3 harg3 arg4 harg4 arg5 harg5 arg6 harg6 arg7 harg7 arg15 x0 x1 x2 x3 x4 x5 fs1 = invV (over448 (arg15.view.readAt (Elt F) (Rect.unit (s := S128x128) ![0, 0] S128x128.size inb_S128x128_S128x128_0_0).toLoadRect (arg15.view.writes (Elt F) fs1 (kernelRun0_A.sl.HS1_42 c arg2 harg2 arg3 harg3 arg4 harg4 arg5 harg5 arg6 harg6 arg7 harg7 x0 x1 x2 x3 x4 x5)))) := by
      unfold kernelRun0_A.sl.r_300
      exact rfl
    have e301 : k0_pay623 (kernelRun0_A.sl.r_301 c arg2 harg2 arg3 harg3 arg4 harg4 arg5 harg5 arg6 harg6 arg7 harg7 arg15 x0 x1 x2 x3 x4 x5 fs1) = sOf (arg15.view.readAt (Elt F) (Rect.unit (s := S128x128) ![0, 0] S128x128.size inb_S128x128_S128x128_0_0).toLoadRect (arg15.view.writes (Elt F) fs1 (kernelRun0_A.sl.HS1_42 c arg2 harg2 arg3 harg3 arg4 harg4 arg5 harg5 arg6 harg6 arg7 harg7 x0 x1 x2 x3 x4 x5))) := by
      unfold kernelRun0_A.sl.r_301
      exact rfl
    have hR := readR (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg15.view fs1
    rw [← eHS1] at hR
    have hI := invR (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) (arg15.view.readAt (Elt F) (Rect.unit (s := S128x128) ![0, 0] S128x128.size inb_S128x128_S128x128_0_0).toLoadRect (arg15.view.writes (Elt F) fs1 (kernelRun0_A.sl.HS1_42 c arg2 harg2 arg3 harg3 arg4 harg4 arg5 harg5 arg6 harg6 arg7 harg7 x0 x1 x2 x3 x4 x5))) hR
    rw [← e300] at hI
    have hY : ∀ j, (fun j : Fin 42 => arg14.view.readCov (kernelRun0_A.sl.HS0_42 c arg2 harg2 arg3 harg3 arg4 harg4 arg5 harg5 arg6 harg6 arg7 harg7 x0 x1 x2 x3 x4 x5) (Rect.unit (s := S128x5376) ![0, 128 * j.val] S128x128.size (inbY j)).toLoadRect) j = yV (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) j := fun j => by
      show arg14.view.readCov (kernelRun0_A.sl.HS0_42 c arg2 harg2 arg3 harg3 arg4 harg4 arg5 harg5 arg6 harg6 arg7 harg7 x0 x1 x2 x3 x4 x5) _ = _
      rw [eHS0]; exact readY _ _ _ arg14.view j
    have h85 : ∀ u w z k, k0_pay85 (kernelRun0_A.sl.r_26 c arg2 harg2 x0) (kernelRun0_A.sl.r_27 c arg2 harg2 x0) (kernelRun0_A.sl.r_28 c arg3 harg3 x1) (kernelRun0_A.sl.r_29 c arg3 harg3 x1) (kernelRun0_A.sl.r_30 c arg3 harg3 x1) k0_pay73 (kernelRun0_A.sl.r_35 c arg2 harg2 x0) (kernelRun0_A.sl.r_36 c arg3 harg3 arg5 harg5 x1 x3) (ix4 u w z k) = meanV (loads x0 x1 x2 x3 x4 x5) (ix2 0 k) := by
      intro u w z k
      rw [e36, ← vloads_eq x0 x1 x2 x3 x4 x5 arg2 harg2 arg3 harg3 arg4 harg4 arg5 harg5 arg6 harg6 arg7 harg7]
      exact stat4_apply (meanV (vloads x0 x1 x2 x3 x4 x5 arg2 harg2 arg3 harg3 arg4 harg4 arg5 harg5 arg6 harg6 arg7 harg7)) u w z k
    have h86 : ∀ u w z k, k0_pay86 (kernelRun0_A.sl.r_25 c arg2 harg2 x0) (kernelRun0_A.sl.r_26 c arg2 harg2 x0) (kernelRun0_A.sl.r_27 c arg2 harg2 x0) (kernelRun0_A.sl.r_28 c arg3 harg3 x1) (kernelRun0_A.sl.r_29 c arg3 harg3 x1) (kernelRun0_A.sl.r_30 c arg3 harg3 x1) (kernelRun0_A.sl.r_31 c arg4 harg4 x2) (kernelRun0_A.sl.r_32 c arg4 harg4 x2) (kernelRun0_A.sl.r_33 c arg4 harg4 x2) k0_pay73 (kernelRun0_A.sl.r_34 c arg5 harg5 x3) (kernelRun0_A.sl.r_35 c arg2 harg2 x0) (kernelRun0_A.sl.r_36 c arg3 harg3 arg5 harg5 x1 x3) (ix4 u w z k) = rstdV (loads x0 x1 x2 x3 x4 x5) (ix2 0 k) := by
      intro u w z k
      rw [e34, e36, ← vloads_eq x0 x1 x2 x3 x4 x5 arg2 harg2 arg3 harg3 arg4 harg4 arg5 harg5 arg6 harg6 arg7 harg7]
      exact stat4_apply (rstdV (vloads x0 x1 x2 x3 x4 x5 arg2 harg2 arg3 harg3 arg4 harg4 arg5 harg5 arg6 harg6 arg7 harg7)) u w z k
    have hq : qB (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) = qX x0 x1 x2 x3 x4 x5 := by rw [e37, e38, vloads_eq]; rfl
    have hs : sB (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) = sX x0 x1 x2 x3 x4 x5 := by rw [e37, e38, vloads_eq]; rfl
    have hqt : qtB (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) = qtX x0 x1 x2 x3 x4 x5 := by rw [e37, e38, vloads_eq]; rfl
    have h16 : upd16 (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) i x16 = u16X x0 x1 x2 x3 x4 x5 i x16 := by rw [e37, e38, vloads_eq]; rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact (read_q (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg8.view f6 (kernelRun0_A.sl.r_300 c arg2 harg2 arg3 harg3 arg4 harg4 arg5 harg5 arg6 harg6 arg7 harg7 arg15 x0 x1 x2 x3 x4 x5 fs1) (fun j : Fin 42 => arg14.view.readCov (kernelRun0_A.sl.HS0_42 c arg2 harg2 arg3 harg3 arg4 harg4 arg5 harg5 arg6 harg6 arg7 harg7 x0 x1 x2 x3 x4 x5) (Rect.unit (s := S128x5376) ![0, 128 * j.val] S128x128.size (inbY j)).toLoadRect) hI hY).trans hq
    isplitl [H7]
    · iexists _; isplitr; swap; · iexact H7
      ipureintro
      exact (show arg9.view.read (Elt F) (arg9.view.writes (Elt F) f7 [⟨Rect.unit (s := S1x42x128) ![0, 0, 0] S1x42x128.size inb_S1x42x128_S1x42x128_0_0_0, _⟩]) = _ from by rw [e301]; exact read_s (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg9.view f7 (arg15.view.readAt (Elt F) (Rect.unit (s := S128x128) ![0, 0] S128x128.size inb_S128x128_S128x128_0_0).toLoadRect (arg15.view.writes (Elt F) fs1 (kernelRun0_A.sl.HS1_42 c arg2 harg2 arg3 harg3 arg4 harg4 arg5 harg5 arg6 harg6 arg7 harg7 x0 x1 x2 x3 x4 x5))) hR _).trans hs
    isplitl [H8]
    · iexists _; isplitr; swap; · iexact H8
      ipureintro
      exact (read_qt (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg10.view f8).trans hqt
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      exact ((read_16 (kernelRun0_A.sl.r_37 c arg2 harg2 arg3 harg3 arg5 harg5 x0 x1 x3) (kernelRun0_A.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg16.view (harg16.unread x16) i).trans (by rw [harg16.read_unread])).trans h16
    iexists _; isplitr; swap; · iexact HS3
    ipureintro
    exact (read_17 arg17.view (harg17.unread x17) i _ _ (meanV (loads x0 x1 x2 x3 x4 x5)) (rstdV (loads x0 x1 x2 x3 x4 x5)) h86 h85).trans (by rw [harg17.read_unread]; rfl)

end Cert.KernelIdeal.Gen

end
-- ==== Proof.PiecesB.lean ====
/- The blocks copied out of scratch when a group of rows closes: the column scales' three rows and the statistics. -/
module

public import proofs.«01_k».proof.Proof.Pieces

@[expose] public section

set_option maxRecDepth 16384

noncomputable section

namespace Cert.KernelIdeal.Quant

open Idealize.ShloMosaic Cert.KernelIdeal.Gen

variable {F : FTy → Type} [FloatOps F]

theorem inbC (j : Fin 42) : ∀ a, (![0, 0, 128 * j.val] : Fin 3 → ℕ) a + S1x3x128.size a ≤ S1x3x5376.size a := by
  intro a; fin_cases a
  · show 0 + 1 ≤ 1; omega
  · show 0 + 3 ≤ 3; omega
  · show 128 * j.val + 128 ≤ 5376; omega

theorem inbD (j : Fin 42) : ∀ a, (![j.val, 0, 0] : Fin 3 → ℕ) a + S1x3x128.size a ≤ S42x8x128.size a := by
  intro a; fin_cases a
  · show j.val + 1 ≤ 42; omega
  · show 0 + 3 ≤ 8; omega
  · show 0 + 128 ≤ 128; omega

/-- A block of three rows of column scales, as it is copied. -/
def copy3 (w : FVec F S1x3x128 .f32) : FVec F S1x3x128 .f32 :=
  shapeCast S1x3x128 (shapeCast S3x128 w shapeCasts_S1x3x128_S3x128) shapeCasts_S3x128_S1x3x128

theorem copy3_apply (w : FVec F S1x3x128 .f32) (u : Fin 1) (r : Fin 3) (k : Fin 128) : copy3 w (ix3 u r k) = w (ix3 0 r k) := by
  unfold copy3
  pointwise
  exact congrArg (fun u => w (ix3 u r k)) (Subsingleton.elim u 0)

/-- The pieces of the column scales' output, from the blocks loaded. -/
def outP (W : Fin 42 → FVec F S1x3x128 .f32) (j : Fin 42) : View.Piece (Elt F) S1x3x5376 .f32 :=
  ⟨Rect.unit (s := S1x3x5376) ![0, 0, 128 * j.val] S1x3x128.size (inbC j), copy3 (W j)⟩

section Back
variable {κ : Kind} {sp : Space}

/-- The three rows loaded out of the column scales' scratch. -/
def row3 (v : View sig κ sp S42x8x128 .f32) (f : v.ty.Contents (Elt F)) (j : Fin 42) : FVec F S1x3x128 .f32 :=
  v.readAt (Elt F) (Rect.unit (s := S42x8x128) ![j.val, 0, 0] S1x3x128.size (inbD j)).toLoadRect f

theorem row3_apply (v : View sig κ sp S42x8x128 .f32) (f : v.ty.Contents (Elt F)) (j : Fin 42) (u : Fin 1) (r : Fin 3) (k : Fin 128) :
    row3 v f j (ix3 u r k) = v.read (Elt F) f (ix3 j ⟨r.val, by omega⟩ k) := by
  show v.read (Elt F) f ((Rect.unit (s := S42x8x128) ![j.val, 0, 0] S1x3x128.size (inbD j)).emb (ix3 u r k)) = _
  congr 1
  funext a; apply Fin.ext; fin_cases a
  · show j.val + 1 * u.val = j.val; omega
  · show 0 + 1 * r.val = r.val; omega
  · show 0 + 1 * k.val = k.val; omega

theorem read_st (v : View sig κ sp S1x3x5376 .f32) (b : v.ty.Contents (Elt F)) (w : View sig κ sp S42x8x128 .f32)
    (f : w.ty.Contents (Elt F)) :
    v.read (Elt F) (v.writes (Elt F) b (pieces42 (outP (row3 w f)))) = stOut (w.read (Elt F) f) := by
  funext y
  have hlt : (y 2).val < 5376 := (y 2).isLt
  have h0 : (y 0).val < 1 := (y 0).isLt
  have h1 : (y 1).val < 3 := (y 1).isLt
  refine read_pieces42 v b (outP (row3 w f)) _ ?_ y (blkOf (y 2).val) ((Rect.mem_set_unit (inb := inbC _)).mpr ?_)
  · intro k (x : S1x3x128.Idx)
    have e1 : ((outP (row3 w f) k).1.emb x 1).val = (x 1).val := by show 0 + 1 * (x 1).val = _; omega
    have e2 : ((outP (row3 w f) k).1.emb x 2).val = 128 * k.val + (x 2).val := by show 128 * k.val + 1 * (x 2).val = _; omega
    show copy3 (row3 w f k) x = stOut (w.read (Elt F) f) ((outP (row3 w f) k).1.emb x)
    unfold stOut
    rw [e2, blkOf_add k (x 2), laneOf_add k (x 2)]
    refine (congrArg (copy3 (row3 w f k)) (eq_ix3 x)).trans ((copy3_apply _ _ _ _).trans ((row3_apply w f k _ _ _).trans ?_))
    exact congrArg (fun r => w.read (Elt F) f (ix3 k r (x 2))) (Fin.ext e1.symm)
  · intro a
    fin_cases a
    · exact ⟨Nat.zero_le _, by show (y 0).val < 0 + 1; omega⟩
    · exact ⟨Nat.zero_le _, by show (y 1).val < 0 + 3; omega⟩
    · show 128 * ((y 2).val / 128 % 42) ≤ (y 2).val ∧ (y 2).val < 128 * ((y 2).val / 128 % 42) + 128; omega

/-- A block of statistics as a plane. -/
def plane (w : FVec F S1x1x5x128 .f32) : FVec F S5x128 .f32 := shapeCast S5x128 w shapeCasts_S1x1x5x128_S5x128

theorem plane_apply (w : FVec F S1x1x5x128 .f32) (r : Fin 5) (k : Fin 128) : plane w (ix2 r k) = w (ix4 0 0 r k) := by
  unfold plane
  pointwise

theorem inbS (p : Fin 2) (z : Fin 3) : ∀ a, (![p.val, z.val, 0, 0] : Fin 4 → ℕ) a + S1x1x5x128.size a ≤ S2x3x8x128.size a := by
  intro a; fin_cases a
  · show p.val + 1 ≤ 2; omega
  · show z.val + 1 ≤ 3; omega
  · show 0 + 5 ≤ 8; omega
  · show 0 + 128 ≤ 128; omega

theorem inbM (z : Fin 3) : ∀ a, (![0, 128 * z.val] : Fin 2 → ℕ) a + S5x128.size a ≤ S5x384.size a := by
  intro a; fin_cases a
  · show 0 + 5 ≤ 5; omega
  · show 128 * z.val + 128 ≤ 384; omega

/-- Five rows of one plane of the statistics, loaded out of scratch. -/
def row5 (v : View sig κ sp S2x3x8x128 .f32) (f : v.ty.Contents (Elt F)) (p : Fin 2) (z : Fin 3) : FVec F S1x1x5x128 .f32 :=
  v.readAt (Elt F) (Rect.unit (s := S2x3x8x128) ![p.val, z.val, 0, 0] S1x1x5x128.size (inbS p z)).toLoadRect f

theorem row5_apply (v : View sig κ sp S2x3x8x128 .f32) (f : v.ty.Contents (Elt F)) (p : Fin 2) (z : Fin 3) (u w : Fin 1) (r : Fin 5)
    (k : Fin 128) : row5 v f p z (ix4 u w r k) = v.read (Elt F) f (ix4 p z ⟨r.val, by omega⟩ k) := by
  show v.read (Elt F) f ((Rect.unit (s := S2x3x8x128) ![p.val, z.val, 0, 0] S1x1x5x128.size (inbS p z)).emb (ix4 u w r k)) = _
  congr 1
  funext a; apply Fin.ext; fin_cases a
  · show p.val + 1 * u.val = p.val; omega
  · show z.val + 1 * w.val = z.val; omega
  · show 0 + 1 * r.val = r.val; omega
  · show 0 + 1 * k.val = k.val; omega

/-- The piece of a statistics output that covers column block `z`. -/
def statP (W : Fin 3 → FVec F S1x1x5x128 .f32) (z : Fin 3) : View.Piece (Elt F) S5x384 .f32 :=
  ⟨Rect.unit (s := S5x384) ![0, 128 * z.val] S5x128.size (inbM z), plane (W z)⟩

theorem read_stat (v : View sig κ sp S5x384 .f32) (b : v.ty.Contents (Elt F)) (w : View sig κ sp S2x3x8x128 .f32)
    (f : w.ty.Contents (Elt F)) (p : Fin 2) :
    v.read (Elt F) (v.writes (Elt F) b [statP (row5 w f p) 2, statP (row5 w f p) 1, statP (row5 w f p) 0])
      = statOut p (w.read (Elt F) f) := by
  funext y
  have hlt : (y 1).val < 384 := (y 1).isLt
  have h0 : (y 0).val < 5 := (y 0).isLt
  have hG : ∀ (z : Fin 3) (x : S5x128.Idx), plane (row5 w f p z) x = statOut p (w.read (Elt F) f) ((statP (row5 w f p) z).1.emb x) := by
    intro z x
    have hx : (x 1).val < 128 := (x 1).isLt
    have e0 : ((statP (row5 w f p) z).1.emb x 0).val = (x 0).val := by show 0 + 1 * (x 0).val = _; omega
    have e1 : ((statP (row5 w f p) z).1.emb x 1).val = 128 * z.val + (x 1).val := by show 128 * z.val + 1 * (x 1).val = _; omega
    unfold statOut
    refine (congrArg (plane (row5 w f p z)) (eq_ix2 x)).trans ((plane_apply _ _ _).trans ((row5_apply w f p z _ _ _ _).trans ?_))
    congr 1
    funext a; apply Fin.ext; fin_cases a
    · rfl
    · show z.val = ((statP (row5 w f p) z).1.emb x 1).val / 128; omega
    · exact e0.symm
    · show (x 1).val = ((statP (row5 w f p) z).1.emb x 1).val % 128; omega
  refine View.read_writes_apply_of_pieces v b _ _ ?_ y ⟨statP (row5 w f p) ⟨(y 1).val / 128, by omega⟩, ?_, ?_⟩
  · intro q hq
    simp only [List.mem_cons, List.not_mem_nil, or_false] at hq
    rcases hq with rfl | rfl | rfl
    · exact hG 2
    · exact hG 1
    · exact hG 0
  · have : (y 1).val / 128 = 0 ∨ (y 1).val / 128 = 1 ∨ (y 1).val / 128 = 2 := by omega
    simp only [List.mem_cons, List.not_mem_nil, or_false]
    rcases this with h | h | h
    · exact .inr (.inr (congrArg (statP (row5 w f p)) (Fin.ext h)))
    · exact .inr (.inl (congrArg (statP (row5 w f p)) (Fin.ext h)))
    · exact .inl (congrArg (statP (row5 w f p)) (Fin.ext h))
  · refine (Rect.mem_set_unit (inb := inbM _)).mpr fun a => ?_
    fin_cases a
    · exact ⟨Nat.zero_le _, by show (y 0).val < 0 + 5; omega⟩
    · show 128 * ((y 1).val / 128) ≤ (y 1).val ∧ (y 1).val < 128 * ((y 1).val / 128) + 128; omega

end Back

end Cert.KernelIdeal.Quant

end

end
-- ==== Proof.RunB.lean ====
/- The kernel's body run whole, at the points that close a group of rows: what every buffer
   ends at, as a function of the windows and of the scratch it started from. -/
module

public import proofs.«01_k».proof.Proof.PiecesB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Quant
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6184000 in
/-- The body on whole staging memrefs, its branch taken: the inputs' end as they were, the codes' and
    row scales' hold the point's, and row and statistics scratch are the old ones with this point's row replaced. -/
theorem kernelRun0_B (c : Dev nD) (i : grid0.Coords) (arg2 : Memref sig .tc .smem S3 .f32) (harg2 : arg2.IsWhole) (arg3 : Memref sig .tc .vmem S1x3x128 .f32) (harg3 : arg3.IsWhole) (arg4 : Memref sig .tc .vmem S1x3x128 .f32) (harg4 : arg4.IsWhole) (arg5 : Memref sig .tc .vmem S1x128x5376 .bf16) (harg5 : arg5.IsWhole) (arg6 : Memref sig .tc .vmem S1x5376 .f32) (harg6 : arg6.IsWhole) (arg7 : Memref sig .tc .vmem S1x5376 .f32) (harg7 : arg7.IsWhole) (arg8 : Memref sig .tc .vmem S1x128x5376 .fp8e4m3) (harg8 : arg8.IsWhole) (arg9 : Memref sig .tc .vmem S1x42x128 .f32) (harg9 : arg9.IsWhole) (arg10 : Memref sig .tc .vmem S1x5376x128 .fp8e4m3) (harg10 : arg10.IsWhole) (arg11 : Memref sig .tc .vmem S1x3x5376 .f32) (harg11 : arg11.IsWhole) (arg12 : Memref sig .tc .vmem S5x384 .f32) (harg12 : arg12.IsWhole) (arg13 : Memref sig .tc .vmem S5x384 .f32) (harg13 : arg13.IsWhole) (arg14 : Memref sig .tc .vmem S128x5376 .f32) (harg14 : arg14.IsWhole) (arg15 : Memref sig .tc .vmem S128x128 .f32) (harg15 : arg15.IsWhole) (arg16 : Memref sig .tc .vmem S42x8x128 .f32) (harg16 : arg16.IsWhole) (arg17 : Memref sig .tc .vmem S2x3x8x128 .f32) (harg17 : arg17.IsWhole) (hc0 : cond0_0 i)
    (x0 : Vec F S3 .f32) (x1 : Vec F S1x3x128 .f32) (x2 : Vec F S1x3x128 .f32) (x3 : Vec F S1x128x5376 .bf16) (x4 : Vec F S1x5376 .f32) (x5 : Vec F S1x5376 .f32) (x16 : Vec F S42x8x128 .f32) (x17 : Vec F S2x3x8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x16 ∗ owns (c : Thread nD τ) arg17 fullShare x17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (qX x0 x1 x2 x3 x4 x5) ∗ owns (c : Thread nD τ) arg9 fullShare (sX x0 x1 x2 x3 x4 x5) ∗ owns (c : Thread nD τ) arg10 fullShare (qtX x0 x1 x2 x3 x4 x5) ∗ owns (c : Thread nD τ) arg11 fullShare (stOut (u16X x0 x1 x2 x3 x4 x5 i x16)) ∗ owns (c : Thread nD τ) arg12 fullShare (statOut 0 (u17X x0 x1 x2 x3 x4 x5 i x17)) ∗ owns (c : Thread nD τ) arg13 fullShare (statOut 1 (u17X x0 x1 x2 x3 x4 x5 i x17)) ∗ (∃ d, owns (c : Thread nD τ) arg14 fullShare d) ∗ (∃ d, owns (c : Thread nD τ) arg15 fullShare d) ∗ owns (c : Thread nD τ) arg16 fullShare (u16X x0 x1 x2 x3 x4 x5 i x16) ∗ owns (c : Thread nD τ) arg17 fullShare (u17X x0 x1 x2 x3 x4 x5 i x17)) -∗ K ⟨⟩))
          ⊢ wp frame (wpE (defs₀ (F := F)) Variants.none c none) E (cc0_ln_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_ln_quant_eq_skeleton]; unfold cc0_ln_quant_skel
    simp only [k0_part156_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part157_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg16.eq_unread hfs2; obtain rfl := harg17.eq_unread hfs3
    sl_exec (disch := first | sl_exact hc0)
    sl_step
    have e7 : kernelRun0_B.sl.r_7 c arg5 harg5 x3 = meanLoc (vloads x0 x1 x2 x3 x4 x5 arg2 harg2 arg3 harg3 arg4 harg4 arg5 harg5 arg6 harg6 arg7 harg7) := by
      unfold kernelRun0_B.sl.r_7
      exact rfl
    have e34 : kernelRun0_B.sl.r_34 c arg5 harg5 x3 = asRow (m2Loc (vloads x0 x1 x2 x3 x4 x5 arg2 harg2 arg3 harg3 arg4 harg4 arg5 harg5 arg6 harg6 arg7 harg7)) := by
      refine (show _ = asRow (m2Of (vloads x0 x1 x2 x3 x4 x5 arg2 harg2 arg3 harg3 arg4 harg4 arg5 harg5 arg6 harg6 arg7 harg7) (kernelRun0_B.sl.r_7 c arg5 harg5 x3)) from ?_).trans (by rw [e7]; rfl)
      unfold kernelRun0_B.sl.r_34
      exact rfl
    have e36 : kernelRun0_B.sl.r_36 c arg3 harg3 arg5 harg5 x1 x3 = k0_pay76 (meanLoc (vloads x0 x1 x2 x3 x4 x5 arg2 harg2 arg3 harg3 arg4 harg4 arg5 harg5 arg6 harg6 arg7 harg7)) (((vloads x0 x1 x2 x3 x4 x5 arg2 harg2 arg3 harg3 arg4 harg4 arg5 harg5 arg6 harg6 arg7 harg7)).pm 0) := by
      unfold kernelRun0_B.sl.r_36
      rw [e7]
      exact rfl
    have e37 : (kernelRun0_B.sl.r_37 c arg2 harg2 arg3 harg3 arg5 harg5 x0 x1 x3) = mcL (vloads x0 x1 x2 x3 x4 x5 arg2 harg2 arg3 harg3 arg4 harg4 arg5 harg5 arg6 harg6 arg7 harg7) := by
      unfold kernelRun0_B.sl.r_37
      rw [e36]
      exact rfl
    have e38 : (kernelRun0_B.sl.r_38 c arg2 harg2 arg3 harg3 arg4 harg4 arg5 harg5 x0 x1 x2 x3) = rcL (vloads x0 x1 x2 x3 x4 x5 arg2 harg2 arg3 harg3 arg4 harg4 arg5 harg5 arg6 harg6 arg7 harg7) := by
      unfold kernelRun0_B.sl.r_38
      rw [e34, e36]
      exact rfl
    have eHS0 : kernelRun0_B.sl.HS0_42 c arg2 harg2 arg3 harg3 arg4 harg4 arg5 harg5 arg6 harg6 arg7 harg7 x0 x1 x2 x3 x4 x5 = pieces42 (yP (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7)) := by
      unfold kernelRun0_B.sl.HS0_42
      exact rfl
    have eHS1 : kernelRun0_B.sl.HS1_42 c arg2 harg2 arg3 harg3 arg4 harg4 arg5 harg5 arg6 harg6 arg7 harg7 x0 x1 x2 x3 x4 x5 = pieces42 (rP (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7)) := by
      unfold kernelRun0_B.sl.HS1_42
      exact rfl
    have e300 : kernelRun0_B.sl.r_300 c arg2 harg2 arg3 harg3 arg4 harg4 arg5 harg5 arg6 harg6 arg7 harg7 arg15 x0 x1 x2 x3 x4 x5 fs1 = invV (over448 (arg15.view.readAt (Elt F) (Rect.unit (s := S128x128) ![0, 0] S128x128.size inb_S128x128_S128x128_0_0).toLoadRect (arg15.view.writes (Elt F) fs1 (kernelRun0_B.sl.HS1_42 c arg2 harg2 arg3 harg3 arg4 harg4 arg5 harg5 arg6 harg6 arg7 harg7 x0 x1 x2 x3 x4 x5)))) := by
      unfold kernelRun0_B.sl.r_300
      exact rfl
    have e301 : k0_pay623 (kernelRun0_B.sl.r_301 c arg2 harg2 arg3 harg3 arg4 harg4 arg5 harg5 arg6 harg6 arg7 harg7 arg15 x0 x1 x2 x3 x4 x5 fs1) = sOf (arg15.view.readAt (Elt F) (Rect.unit (s := S128x128) ![0, 0] S128x128.size inb_S128x128_S128x128_0_0).toLoadRect (arg15.view.writes (Elt F) fs1 (kernelRun0_B.sl.HS1_42 c arg2 harg2 arg3 harg3 arg4 harg4 arg5 harg5 arg6 harg6 arg7 harg7 x0 x1 x2 x3 x4 x5))) := by
      unfold kernelRun0_B.sl.r_301
      exact rfl
    have hR := readR (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg15.view fs1
    rw [← eHS1] at hR
    have hI := invR (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) (arg15.view.readAt (Elt F) (Rect.unit (s := S128x128) ![0, 0] S128x128.size inb_S128x128_S128x128_0_0).toLoadRect (arg15.view.writes (Elt F) fs1 (kernelRun0_B.sl.HS1_42 c arg2 harg2 arg3 harg3 arg4 harg4 arg5 harg5 arg6 harg6 arg7 harg7 x0 x1 x2 x3 x4 x5))) hR
    rw [← e300] at hI
    have hY : ∀ j, (fun j : Fin 42 => arg14.view.readCov (kernelRun0_B.sl.HS0_42 c arg2 harg2 arg3 harg3 arg4 harg4 arg5 harg5 arg6 harg6 arg7 harg7 x0 x1 x2 x3 x4 x5) (Rect.unit (s := S128x5376) ![0, 128 * j.val] S128x128.size (inbY j)).toLoadRect) j = yV (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) j := fun j => by
      show arg14.view.readCov (kernelRun0_B.sl.HS0_42 c arg2 harg2 arg3 harg3 arg4 harg4 arg5 harg5 arg6 harg6 arg7 harg7 x0 x1 x2 x3 x4 x5) _ = _
      rw [eHS0]; exact readY _ _ _ arg14.view j
    have h85 : ∀ u w z k, k0_pay85 (kernelRun0_B.sl.r_26 c arg2 harg2 x0) (kernelRun0_B.sl.r_27 c arg2 harg2 x0) (kernelRun0_B.sl.r_28 c arg3 harg3 x1) (kernelRun0_B.sl.r_29 c arg3 harg3 x1) (kernelRun0_B.sl.r_30 c arg3 harg3 x1) k0_pay73 (kernelRun0_B.sl.r_35 c arg2 harg2 x0) (kernelRun0_B.sl.r_36 c arg3 harg3 arg5 harg5 x1 x3) (ix4 u w z k) = meanV (loads x0 x1 x2 x3 x4 x5) (ix2 0 k) := by
      intro u w z k
      rw [e36, ← vloads_eq x0 x1 x2 x3 x4 x5 arg2 harg2 arg3 harg3 arg4 harg4 arg5 harg5 arg6 harg6 arg7 harg7]
      exact stat4_apply (meanV (vloads x0 x1 x2 x3 x4 x5 arg2 harg2 arg3 harg3 arg4 harg4 arg5 harg5 arg6 harg6 arg7 harg7)) u w z k
    have h86 : ∀ u w z k, k0_pay86 (kernelRun0_B.sl.r_25 c arg2 harg2 x0) (kernelRun0_B.sl.r_26 c arg2 harg2 x0) (kernelRun0_B.sl.r_27 c arg2 harg2 x0) (kernelRun0_B.sl.r_28 c arg3 harg3 x1) (kernelRun0_B.sl.r_29 c arg3 harg3 x1) (kernelRun0_B.sl.r_30 c arg3 harg3 x1) (kernelRun0_B.sl.r_31 c arg4 harg4 x2) (kernelRun0_B.sl.r_32 c arg4 harg4 x2) (kernelRun0_B.sl.r_33 c arg4 harg4 x2) k0_pay73 (kernelRun0_B.sl.r_34 c arg5 harg5 x3) (kernelRun0_B.sl.r_35 c arg2 harg2 x0) (kernelRun0_B.sl.r_36 c arg3 harg3 arg5 harg5 x1 x3) (ix4 u w z k) = rstdV (loads x0 x1 x2 x3 x4 x5) (ix2 0 k) := by
      intro u w z k
      rw [e34, e36, ← vloads_eq x0 x1 x2 x3 x4 x5 arg2 harg2 arg3 harg3 arg4 harg4 arg5 harg5 arg6 harg6 arg7 harg7]
      exact stat4_apply (rstdV (vloads x0 x1 x2 x3 x4 x5 arg2 harg2 arg3 harg3 arg4 harg4 arg5 harg5 arg6 harg6 arg7 harg7)) u w z k
    have hq : qB (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) = qX x0 x1 x2 x3 x4 x5 := by rw [e37, e38, vloads_eq]; rfl
    have hs : sB (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) = sX x0 x1 x2 x3 x4 x5 := by rw [e37, e38, vloads_eq]; rfl
    have hqt : qtB (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) = qtX x0 x1 x2 x3 x4 x5 := by rw [e37, e38, vloads_eq]; rfl
    have h16 : upd16 (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) i x16 = u16X x0 x1 x2 x3 x4 x5 i x16 := by rw [e37, e38, vloads_eq]; rfl
    have eHS2 : (kernelRun0_B.sl.HS2_42 c i arg2 harg2 arg3 harg3 arg4 harg4 arg5 harg5 arg6 harg6 arg7 harg7 x0 x1 x2 x3 x4 x5) = pieces42 (stP (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) i) := by
      unfold kernelRun0_B.sl.HS2_42
      exact rfl
    have r16 : arg16.view.read (Elt F) (arg16.view.writes (Elt F) (harg16.unread x16) (kernelRun0_B.sl.HS2_42 c i arg2 harg2 arg3 harg3 arg4 harg4 arg5 harg5 arg6 harg6 arg7 harg7 x0 x1 x2 x3 x4 x5)) = u16X x0 x1 x2 x3 x4 x5 i x16 := by
      rw [eHS2]
      exact ((read_16 (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg16.view (harg16.unread x16) i).trans (by rw [harg16.read_unread])).trans h16
    have r17 : arg17.view.read (Elt F) (arg17.view.writes (Elt F) (harg17.unread x17) (kernelRun0_B.sl.HS3_2 c i arg2 harg2 arg3 harg3 arg4 harg4 arg5 harg5 x0 x1 x2 x3)) = u17X x0 x1 x2 x3 x4 x5 i x17 := by
      unfold kernelRun0_B.sl.HS3_2
      exact (read_17 arg17.view (harg17.unread x17) i _ _ (meanV (loads x0 x1 x2 x3 x4 x5)) (rstdV (loads x0 x1 x2 x3 x4 x5)) h86 h85).trans (by rw [harg17.read_unread]; rfl)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact (read_q (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg8.view f6 (kernelRun0_B.sl.r_300 c arg2 harg2 arg3 harg3 arg4 harg4 arg5 harg5 arg6 harg6 arg7 harg7 arg15 x0 x1 x2 x3 x4 x5 fs1) (fun j : Fin 42 => arg14.view.readCov (kernelRun0_B.sl.HS0_42 c arg2 harg2 arg3 harg3 arg4 harg4 arg5 harg5 arg6 harg6 arg7 harg7 x0 x1 x2 x3 x4 x5) (Rect.unit (s := S128x5376) ![0, 128 * j.val] S128x128.size (inbY j)).toLoadRect) hI hY).trans hq
    isplitl [H7]
    · iexists _; isplitr; swap; · iexact H7
      ipureintro
      exact (show arg9.view.read (Elt F) (arg9.view.writes (Elt F) f7 [⟨Rect.unit (s := S1x42x128) ![0, 0, 0] S1x42x128.size inb_S1x42x128_S1x42x128_0_0_0, _⟩]) = _ from by rw [e301]; exact read_s (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg9.view f7 (arg15.view.readAt (Elt F) (Rect.unit (s := S128x128) ![0, 0] S128x128.size inb_S128x128_S128x128_0_0).toLoadRect (arg15.view.writes (Elt F) fs1 (kernelRun0_B.sl.HS1_42 c arg2 harg2 arg3 harg3 arg4 harg4 arg5 harg5 arg6 harg6 arg7 harg7 x0 x1 x2 x3 x4 x5))) hR _).trans hs
    isplitl [H8]
    · iexists _; isplitr; swap; · iexact H8
      ipureintro
      exact (read_qt (kernelRun0_B.sl.r_37 c arg2 harg2 arg3 harg3 arg5 harg5 x0 x1 x3) (kernelRun0_B.sl.r_38 c arg2 harg2 arg3 harg3 arg4 harg4 arg5 harg5 x0 x1 x2 x3) (vloads x0 x1 x2 x3 x4 x5 arg2 harg2 arg3 harg3 arg4 harg4 arg5 harg5 arg6 harg6 arg7 harg7) arg10.view f8).trans hqt
    isplitl [H9]
    · iexists _; isplitr; swap; · iexact H9
      ipureintro
      exact (read_st arg11.view f9 arg16.view (arg16.view.writes (Elt F) (harg16.unread x16) (kernelRun0_B.sl.HS2_42 c i arg2 harg2 arg3 harg3 arg4 harg4 arg5 harg5 arg6 harg6 arg7 harg7 x0 x1 x2 x3 x4 x5))).trans (congrArg stOut r16)
    isplitl [H10]
    · iexists _; isplitr; swap; · iexact H10
      ipureintro
      exact (read_stat arg12.view f10 arg17.view (arg17.view.writes (Elt F) (harg17.unread x17) (kernelRun0_B.sl.HS3_2 c i arg2 harg2 arg3 harg3 arg4 harg4 arg5 harg5 x0 x1 x2 x3)) 0).trans (congrArg (statOut 0) r17)
    isplitl [H11]
    · iexists _; isplitr; swap; · iexact H11
      ipureintro
      exact (read_stat arg13.view f11 arg17.view (arg17.view.writes (Elt F) (harg17.unread x17) (kernelRun0_B.sl.HS3_2 c i arg2 harg2 arg3 harg3 arg4 harg4 arg5 harg5 x0 x1 x2 x3)) 1).trans (congrArg (statOut 1) r17)
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      exact r16
    iexists _; isplitr; swap; · iexact HS3
    ipureintro
    exact r17

end Cert.KernelIdeal.Gen

end
-- ==== Proof.Launch.lean ====
/- The kernel's launch with its values: what the grid's points leave in the output windows and in the scratch that
   carries column scales and statistics from point to point, and the frame. -/
module

public import proofs.«01_k».proof.Proof.RunA
public import proofs.«01_k».proof.Proof.RunB
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Quant
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What a point leaves -/

/-- What point `t` loads. -/
def LL (c : Dev nD) (t : Fin cfg0.N) : Loads F :=
  loads (iblk m c 0 t) (iblk m c 1 t) (iblk m c 2 t) (iblk m c 3 t) (iblk m c 4 t) (iblk m c 5 t)

/-- The row codes, row scales and column codes of point `t`. -/
def qAt (c : Dev nD) (t : Fin cfg0.N) : Vec F S1x128x5376 .fp8e4m3 := qB (mcL (LL m c t)) (rcL (LL m c t)) (LL m c t)
def sAt (c : Dev nD) (t : Fin cfg0.N) : Vec F S1x42x128 .f32 := sB (mcL (LL m c t)) (rcL (LL m c t)) (LL m c t)
def qtAt (c : Dev nD) (t : Fin cfg0.N) : Vec F S1x5376x128 .fp8e4m3 := qtB (mcL (LL m c t)) (rcL (LL m c t)) (LL m c t)
/-- The scale of column `k` of block `j` at point `t`. -/
def stAt (c : Dev nD) (t : Fin cfg0.N) (j : Fin 42) (k : Fin 128) : F .f32 :=
  scaleV (colMax (mcL (LL m c t)) (rcL (LL m c t)) (LL m c t) j) (ix2 0 k)

/-- Before point `n` the scratch of column scales holds the rows of the points before it in its group. -/
def I16 (c : Dev nD) (n : ℕ) (d : Vec F S42x8x128 .f32) : Prop :=
  ∀ s : Fin cfg0.N, s.val < n → s.val / 3 = n / 3 → ∀ y : S42x8x128.Idx, (y 1).val = s.val % 3 → d y = stAt m c s (y 0) (y 2)

/-- Before point `n` the scratch of statistics holds those of every point before it. -/
def I17 (c : Dev nD) (n : ℕ) (d : Vec F S2x3x8x128 .f32) : Prop :=
  ∀ s : Fin cfg0.N, s.val < n → ∀ y : S2x3x8x128.Idx, (y 1).val = s.val % 3 → (y 2).val = s.val / 3 →
    d y = if (y 0).val = 0 then meanV (LL m c s) (ix2 0 (y 3)) else rstdV (LL m c s) (ix2 0 (y 3))

theorem coords0 (t : Fin cfg0.N) : (grid0.coords t 0).val = t.val / 3 := by
  have ht : t.val < 15 := Nat.lt_of_lt_of_eq t.isLt N_0
  have e0 : (grid0.coords t 0).val = t.val / 3 % 5 := Pipeline.Grid.coords_val t 0 (by decide) rfl
  omega

theorem coords1 (t : Fin cfg0.N) : (grid0.coords t 1).val = t.val % 3 := by
  have e1 : (grid0.coords t 1).val = t.val / 1 % 3 := Pipeline.Grid.coords_val t 1 (by decide) rfl
  omega

/-- The scratch of column scales after point `t`. -/
def n16 (c : Dev nD) (t : Fin cfg0.N) (d : Vec F S42x8x128 .f32) : Vec F S42x8x128 .f32 :=
  upd16 (mcL (LL m c t)) (rcL (LL m c t)) (LL m c t) (grid0.coords t) d
/-- The scratch of statistics after point `t`. -/
def n17 (c : Dev nD) (t : Fin cfg0.N) (d : Vec F S2x3x8x128 .f32) : Vec F S2x3x8x128 .f32 :=
  upd17 (meanV (LL m c t)) (rstdV (LL m c t)) (grid0.coords t) d

theorem n16_spec (c : Dev nD) (t : Fin cfg0.N) (d) (h : I16 m c t.val d) (s : Fin cfg0.N) (hs : s.val ≤ t.val) (hb : s.val / 3 = t.val / 3)
    (y : S42x8x128.Idx) (hy : (y 1).val = s.val % 3) : n16 m c t d y = stAt m c s (y 0) (y 2) := by
  unfold n16 upd16
  rw [coords1]
  rcases Nat.lt_or_eq_of_le hs with hlt | heq
  · rw [if_neg (by omega)]
    exact h s hlt hb y hy
  · obtain rfl : s = t := Fin.ext heq
    rw [if_pos hy]; rfl

theorem n16_next (c : Dev nD) (t : Fin cfg0.N) (d) (h : I16 m c t.val d) : I16 m c (t.val + 1) (n16 m c t d) :=
  fun s hs hb y hy => n16_spec m c t d h s (by omega) (by omega) y hy

theorem n17_next (c : Dev nD) (t : Fin cfg0.N) (d) (h : I17 m c t.val d) : I17 m c (t.val + 1) (n17 m c t d) := by
  intro s hs y hy hz
  unfold n17 upd17
  rw [coords1, coords0]
  rcases Nat.lt_succ_iff_lt_or_eq.mp hs with hlt | heq
  · rw [if_neg (by omega)]
    exact h s hlt y hy hz
  · obtain rfl : s = t := Fin.ext heq
    rw [if_pos ⟨hy, hz⟩]

/-! ## The pipeline's proof data -/

/-- The output windows, of which the points' contents are constrained below. -/
def outs0 : Fin 12 → Bool := fun w => w.val == 6 || w.val == 7 || w.val == 8 || w.val == 9 || w.val == 10 || w.val == 11

/-- What holds of the contents a point leaves in an output window: the codes and row scales are the point's; the
    column scales, where a group closes, are its three points'; the statistics, at the last point, are all points'. -/
def left0 (c : Dev nD) : (w : Fin cfg0.W) → Fin cfg0.N → ((cfg0.win w).block.Idx → Elt F (cfg0.win w).elt) → Prop
  | ⟨6, _⟩, t, X => X = qAt m c t
  | ⟨7, _⟩, t, X => X = sAt m c t
  | ⟨8, _⟩, t, X => X = qtAt m c t
  | ⟨9, _⟩, t, X => t.val % 3 = 2 → ∀ (y : S1x3x5376.Idx) (s : Fin cfg0.N), s.val = 3 * (t.val / 3) + (y 1).val →
      X y = stAt m c s (blkOf (y 2).val) (laneOf (y 2).val)
  | ⟨10, _⟩, t, X => t.val = 14 → ∀ (y : S5x384.Idx) (s : Fin cfg0.N), s.val = 3 * (y 0).val + (y 1).val / 128 →
      X y = meanV (LL m c s) (ix2 0 (laneOf (y 1).val))
  | ⟨11, _⟩, t, X => t.val = 14 → ∀ (y : S5x384.Idx) (s : Fin cfg0.N), s.val = 3 * (y 0).val + (y 1).val / 128 →
      X y = rstdV (LL m c s) (ix2 0 (laneOf (y 1).val))
  | ⟨_, _⟩, _, _ => True

theorem left9 (c : Dev nD) (t : Fin cfg0.N) (d) (h : I16 m c t.val d) (hl : t.val % 3 = 2) (y : S1x3x5376.Idx) (s : Fin cfg0.N)
    (hs : s.val = 3 * (t.val / 3) + (y 1).val) : stOut (n16 m c t d) y = stAt m c s (blkOf (y 2).val) (laneOf (y 2).val) := by
  have h1 : (y 1).val < 3 := (y 1).isLt
  unfold stOut
  exact n16_spec m c t d h s (by omega) (by omega) (ix3 _ _ _) (by show (y 1).val = _; omega)

theorem left10 (c : Dev nD) (t : Fin cfg0.N) (d) (h : I17 m c t.val d) (hl : t.val = 14) (y : S5x384.Idx) (s : Fin cfg0.N)
    (hs : s.val = 3 * (y 0).val + (y 1).val / 128) : statOut 0 (n17 m c t d) y = meanV (LL m c s) (ix2 0 (laneOf (y 1).val)) := by
  have h0 : (y 0).val < 5 := (y 0).isLt
  have h1 : (y 1).val < 384 := (y 1).isLt
  unfold statOut
  exact (n17_next m c t d h s (by omega) (ix4 _ _ _ _) (by show (y 1).val / 128 = _; omega) (by show (y 0).val = _; omega)).trans (if_pos rfl)

theorem left11 (c : Dev nD) (t : Fin cfg0.N) (d) (h : I17 m c t.val d) (hl : t.val = 14) (y : S5x384.Idx) (s : Fin cfg0.N)
    (hs : s.val = 3 * (y 0).val + (y 1).val / 128) : statOut 1 (n17 m c t d) y = rstdV (LL m c s) (ix2 0 (laneOf (y 1).val)) := by
  have h0 : (y 0).val < 5 := (y 0).isLt
  have h1 : (y 1).val < 384 := (y 1).isLt
  unfold statOut
  exact (n17_next m c t d h s (by omega) (ix4 _ _ _ _) (by show (y 1).val / 128 = _; omega) (by show (y 0).val = _; omega)).trans
    (if_neg (by show ¬ ((1 : Fin 2).val = 0); decide))

/-- The invariant before point `n`: the row scratch at anything, the carried scratch as `I16`, `I17` say. -/
def inv0 (c : Dev nD) (n : ℕ) : sProp 𝕄 :=
  iprop(iprop((∃ d, owns (c : Thread nD τ) scM0_0 fullShare d) ∗ (∃ d, owns (c : Thread nD τ) scM0_1 fullShare d)
    ∗ (∃ d, ⌜I16 m c n d⌝ ∗ owns (c : Thread nD τ) scM0_2 fullShare d) ∗ (∃ d, ⌜I17 m c n d⌝ ∗ owns (c : Thread nD τ) scM0_3 fullShare d))
    ∗ (∃ r, prngReg c r))

/-- The proof data of the one pipeline on core `c`: the inputs' blocks, the outputs constrained by `left0`, the
    invariant `inv0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := inv0 m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, ⌜left0 m c 6 t X⌝ ∗ owns (c : Thread nD τ) (ms0_6 t) fullShare X)
    ∗ (∃ X, ⌜left0 m c 7 t X⌝ ∗ owns (c : Thread nD τ) (ms0_7 t) fullShare X)
    ∗ (∃ X, ⌜left0 m c 8 t X⌝ ∗ owns (c : Thread nD τ) (ms0_8 t) fullShare X)
    ∗ (∃ X, ⌜left0 m c 9 t X⌝ ∗ owns (c : Thread nD τ) (ms0_9 t) fullShare X)
    ∗ (∃ X, ⌜left0 m c 10 t X⌝ ∗ owns (c : Thread nD τ) (ms0_10 t) fullShare X)
    ∗ (∃ X, ⌜left0 m c 11 t X⌝ ∗ owns (c : Thread nD τ) (ms0_11 t) fullShare X))

set_option maxHeartbeats 3200000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = inv0 m c t.val from rfl, show (dats m 0 c).Φ t.succ = inv0 m c (t.val + 1) from rfl]
  unfold inv0
  have hN : t.val < 15 := lt_of_lt_of_eq t.isLt (show cfg0.N = 15 from N_0)
  by_cases h0 : t.val % 3 = 2
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, ⟨%x16, %h16, HS2⟩, ⟨%x17, %h17, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_B c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) x16 x17) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexists _; isplitr; swap; · iexact HS2
          ipureintro; exact n16_next m c t x16 h16
        iexists _; isplitr; swap; · iexact HS3
        ipureintro; exact n17_next m c t x17 h17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact rfl
    isplitl [H9]
    · iexists _; isplitr; swap; · iexact H9
      ipureintro; exact fun hl y s hs => left9 m c t x16 h16 hl y s hs
    isplitl [H10]
    · iexists _; isplitr; swap; · iexact H10
      ipureintro; exact fun hl y s hs => left10 m c t x17 h17 hl y s hs
    iexists _; isplitr; swap; · iexact H11
    ipureintro; exact fun hl y s hs => left11 m c t x17 h17 hl y s hs
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, ⟨%x16, %h16, HS2⟩, ⟨%x17, %h17, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun0_A c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) x16 x17) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, H6, H7, H8, H9, H10, H11, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexists _; isplitr; swap; · iexact HS2
          ipureintro; exact n16_next m c t x16 h16
        iexists _; isplitr; swap; · iexact HS3
        ipureintro; exact n17_next m c t x17 h17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr; swap; · iexact H6
      ipureintro; exact rfl
    isplitl [H7]
    · iexists _; isplitr; swap; · iexact H7
      ipureintro; exact rfl
    isplitl [H8]
    · iexists _; isplitr; swap; · iexact H8
      ipureintro; exact rfl
    isplitl [H9]
    · icases H9 with ⟨%d, H9⟩; iexists _; isplitr; swap; · iexact H9
      ipureintro; exact fun hl => absurd hl h0
    isplitl [H10]
    · icases H10 with ⟨%d, H10⟩; iexists _; isplitr; swap; · iexact H10
      ipureintro; exact fun hl => absurd (by omega) h0
    icases H11 with ⟨%d, H11⟩; iexists _; isplitr; swap; · iexact H11
    ipureintro; exact fun hl => absurd (by omega) h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- A constrained window's buffer, held at something, is held at anything. -/
theorem found_any {α : Type} (P : α → Prop) (R : α → sProp 𝕄) : iprop(∃ Y, ⌜P Y⌝ ∗ R Y) ⊢ iprop(∃ d, R d) := by
  iintro ⟨%Y, -, H⟩; iexists Y; iexact H

/-- The library's body obligation, at every point. -/
theorem body_obligation (c : Dev nD) :
    Pipeline.BodyObligationRel (dats (F := F) m 0 c) (defs₀ (F := F)) Variants.none () Set.univ outs0 (left0 m c) := fun t => by
  rw [bigSep_W0, bigSep_W0, defs₀_row]
  exact triple_restated (sound_body m c t) rfl
    (BIClass.sep_mono .rfl (BIClass.sep_mono .rfl (BIClass.sep_mono .rfl (BIClass.sep_mono .rfl (BIClass.sep_mono .rfl (BIClass.sep_mono .rfl (BIClass.sep_mono .rfl (BIClass.sep_mono .rfl
      (BIClass.sep_mono (found_any _ _) (BIClass.sep_mono (found_any _ _) (BIClass.sep_mono (found_any _ _) (BIClass.sep_mono (found_any _ _)
        (BIClass.sep_mono (found_any _ _) (found_any _ _)))))))))))))) fun _ => .rfl

/-! ## The run and the frame -/

theorem inv0_first (c : Dev nD) : (Pipeline.ΦA spec0 c : sProp 𝕄) ⊢ inv0 m c 0 := by
  rw [PhiA0_eq]; unfold inv0
  iintro ⟨⟨HS0, HS1, ⟨%d2, HS2⟩, ⟨%d3, HS3⟩⟩, Hg⟩
  isplitl [HS0 HS1 HS2 HS3]
  · isplitl [HS0]; · iexact HS0
    isplitl [HS1]; · iexact HS1
    isplitl [HS2]
    · iexists d2; isplitr
      · ipureintro; exact fun s hs => absurd hs (Nat.not_lt_zero _)
      · iexact HS2
    iexists d3; isplitr
    · ipureintro; exact fun s hs => absurd hs (Nat.not_lt_zero _)
    · iexact HS3
  iexact Hg

theorem inv0_last (c : Dev nD) (n : ℕ) : inv0 m c n ⊢ (Pipeline.ΦA spec0 c : sProp 𝕄) := by
  rw [PhiA0_eq]; unfold inv0
  iintro ⟨⟨HS0, HS1, ⟨%d2, -, HS2⟩, ⟨%d3, -, HS3⟩⟩, Hg⟩
  isplitl [HS0 HS1 HS2 HS3]
  · isplitl [HS0]; · iexact HS0
    isplitl [HS1]; · iexact HS1
    isplitl [HS2]; · iexists d2; iexact HS2
    iexists d3; iexact HS3
  iexact Hg

/-- The data read relationally. -/
def rdat0 (c : Dev nD) : Pipeline.RDat τ (Elt F) Unit ℕ (UR sig nD τ) ℕ cfg0 c := (dats m 0 c).toRRel outs0 (left0 m c)

theorem rdat0_A (c : Dev nD) (w : Fin cfg0.W) : (rdat0 m c).A w = V m c (Pipeline.arrRef spec0 w) := A_eq m c w

-- the launch's implicit arguments are found by unifying its conclusion with this one, which takes unfolding plain
-- definitions in a metavariable's type
set_option backward.isDefEq.respectTransparency.types false in
/-- The launch: the frame run's post, and every semaphore counter of the machine at zero at every final state. -/
theorem run_main_quiescent : θ_run defs (onTc (τ := τ) (main (F := F))) (s₀ m ρ)
    (fun r => (Pipeline.RDat.FramePost (cfgs 0) (rdat0 m) (V m)) r ∧ r.2.sem = fun _ => 0) :=
  Pipeline.RDat.θ_run_frame_track (Q' := _) cfgs (0 : Fin 1) launch0 defs₀ Variants.none (rdat0 m) m ρ main
    (hbody := fun c => (body_obligation m c).toRRel) (hshare := fun c => (dats m 0 c).share_full fun _ => rfl)
    (howed := fun _ _ => rfl) (V := V m) (hmain := hmain m Variants.none) (hA := rdat0_A m)
    (hin := fun c => inv0_first m c) (hout := fun c => inv0_last m c _)

theorem run_main : θ_run defs (onTc (τ := τ) (main (F := F))) (s₀ m ρ) (Pipeline.RDat.FramePost (cfgs 0) (rdat0 m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_rel m ρ (rdat0 m) (rdat0_A m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Final.lean ====
/- The kernel's results after a run, index by index, from what its points leave. -/
module

public import proofs.«01_k».proof.Proof.Launch
public import Idealize.ShloMosaic.Lib.Pipeline.ArrRel
public import Idealize.ShloMosaic.Lib.Pipeline.ValueKit

@[expose] public section

set_option maxRecDepth 16384

noncomputable section

namespace Cert.KernelIdeal.Gen

open Idealize.ShloMosaic Idealize.ShloMosaic.TcCoe
open Idealize.SL Idealize.SL.RA
open Cert.KernelIdeal.Quant
open Idealize.ShloMosaic.Pipeline (Dat Cfg Window cellOf)

variable {F : FTy → Type} [FloatOps F]

variable (m : (ℓ : Loc nD τ sig) → Buf (Elt F) ℓ) (ρ : Dev nD → PrngReg)

/-- The point of group `b` and token block `k`. -/
def pt (b : Fin 5) (k : ℕ) (h : k < 3) : Fin cfg0.N := ⟨3 * b.val + k, Nat.lt_of_lt_of_eq (by omega : 3 * b.val + k < 15) N_0.symm⟩

/-- The point whose block holds row `r` of group `b`. -/
def ptR (b : Fin 5) (r : Fin 384) : Fin cfg0.N := pt b (r.val / 128) (by omega)

/-- The results, index by index. -/
def res0 (c : Dev nD) : S5x384x5376.Idx → F .fp8e4m3 := fun i => qAt m c (ptR (i 0) (i 1)) (ix3 0 (laneOf (i 1).val) (i 2))
def res1 (c : Dev nD) : S5x42x384.Idx → F .f32 := fun i => sAt m c (ptR (i 0) (i 2)) (ix3 0 (i 1) (laneOf (i 2).val))
def res2 (c : Dev nD) : S5x5376x384.Idx → F .fp8e4m3 := fun i => qtAt m c (ptR (i 0) (i 2)) (ix3 0 (i 1) (laneOf (i 2).val))
def res3 (c : Dev nD) : S5x3x5376.Idx → F .f32 := fun i => stAt m c (pt (i 0) (i 1).val (i 1).isLt) (blkOf (i 2).val) (laneOf (i 2).val)
def res4 (c : Dev nD) : S5x384.Idx → F .f32 := fun i => meanV (LL m c (ptR (i 0) (i 1))) (ix2 0 (laneOf (i 1).val))
def res5 (c : Dev nD) : S5x384.Idx → F .f32 := fun i => rstdV (LL m c (ptR (i 0) (i 1))) (ix2 0 (laneOf (i 1).val))

theorem idx6 : ∀ t : Fin cfg0.N, win0_6.index t = ![t.val / 3, t.val % 3, 0] := (by decide +kernel : ∀ t : Fin grid0.N, _)
theorem idx7 : ∀ t : Fin cfg0.N, win0_7.index t = ![t.val / 3, 0, t.val % 3] := (by decide +kernel : ∀ t : Fin grid0.N, _)
theorem idx8 : ∀ t : Fin cfg0.N, win0_8.index t = ![t.val / 3, 0, t.val % 3] := (by decide +kernel : ∀ t : Fin grid0.N, _)
theorem idx9 : ∀ t : Fin cfg0.N, win0_9.index t = ![t.val / 3, 0, 0] := (by decide +kernel : ∀ t : Fin grid0.N, _)

theorem flush9 : ∀ t : Fin cfg0.N, win0_9.flush t = true → t.val % 3 = 2 := (by decide +kernel : ∀ t : Fin grid0.N, _)

theorem ptR_eq (t : Fin cfg0.N) (b : Fin 5) (r : Fin 384) (k : ℕ) (hk : k < 128) (hb : b.val = t.val / 3) (hr : r.val = 128 * (t.val % 3) + k) :
    ptR b r = t := by
  apply Fin.ext
  show 3 * b.val + r.val / 128 = t.val
  omega

theorem laneOf_eq (n : ℕ) (k : Fin 128) (a : ℕ) (h : n = 128 * a + k.val) : laneOf n = k := by
  apply Fin.ext
  show n % 128 = k.val
  omega

theorem res0_at (c : Dev nD) (t : Fin cfg0.N) (y : S1x128x5376.Idx) (z : S5x384x5376.Idx) (h0 : (z 0).val = t.val / 3)
    (h1 : (z 1).val = 128 * (t.val % 3) + (y 1).val) (h2 : (z 2).val = (y 2).val) : qAt m c t y = res0 m c z := by
  unfold res0
  rw [ptR_eq t (z 0) (z 1) (y 1).val (y 1).isLt h0 h1, laneOf_eq _ (y 1) _ h1, show z 2 = y 2 from Fin.ext h2]
  have hy : (y 0).val < 1 := (y 0).isLt
  exact congrArg (qAt m c t) ((eq_ix3 y).trans (congrArg (fun u => ix3 u (y 1) (y 2)) (Fin.ext (by show (y 0).val = 0; omega))))

theorem res1_at (c : Dev nD) (t : Fin cfg0.N) (y : S1x42x128.Idx) (z : S5x42x384.Idx) (h0 : (z 0).val = t.val / 3)
    (h1 : (z 1).val = (y 1).val) (h2 : (z 2).val = 128 * (t.val % 3) + (y 2).val) : sAt m c t y = res1 m c z := by
  unfold res1
  rw [ptR_eq t (z 0) (z 2) (y 2).val (y 2).isLt h0 h2, laneOf_eq _ (y 2) _ h2, show z 1 = y 1 from Fin.ext h1]
  have hy : (y 0).val < 1 := (y 0).isLt
  exact congrArg (sAt m c t) ((eq_ix3 y).trans (congrArg (fun u => ix3 u (y 1) (y 2)) (Fin.ext (by show (y 0).val = 0; omega))))

theorem res2_at (c : Dev nD) (t : Fin cfg0.N) (y : S1x5376x128.Idx) (z : S5x5376x384.Idx) (h0 : (z 0).val = t.val / 3)
    (h1 : (z 1).val = (y 1).val) (h2 : (z 2).val = 128 * (t.val % 3) + (y 2).val) : qtAt m c t y = res2 m c z := by
  unfold res2
  rw [ptR_eq t (z 0) (z 2) (y 2).val (y 2).isLt h0 h2, laneOf_eq _ (y 2) _ h2, show z 1 = y 1 from Fin.ext h1]
  have hy : (y 0).val < 1 := (y 0).isLt
  exact congrArg (qtAt m c t) ((eq_ix3 y).trans (congrArg (fun u => ix3 u (y 1) (y 2)) (Fin.ext (by show (y 0).val = 0; omega))))

section Arr
variable (c : Dev nD) (D : Dat τ (Elt F) Unit ℕ (UR sig nD τ) ℕ cfg0 c)
  (hL : ∀ (w : Fin cfg0.W) (u : Fin cfg0.N), (cfg0.win w).flush u = true → (rdat0 m c).Leaves w u (D.after w u))

include hL

theorem final6 : D.arrAt 6 cfg0.N = res0 m c := by
  refine D.arrAt_eq_of_covers 6 _ (by decide +kernel) fun t hf y => ?_
  have h : D.after 6 t = qAt m c t := (dats m 0 c).toRRel_leaves (fgt := outs0) (w := 6) rfl (hL 6 t hf)
  blk_simp
  rw [h]
  have hy : (y 0).val < 1 := (y 0).isLt
  refine res0_at m c t y _ ?_ ?_ ?_ <;> blk_simp [idx6] <;> first | rfl | omega

theorem final7 : D.arrAt 7 cfg0.N = res1 m c := by
  refine D.arrAt_eq_of_covers 7 _ (by decide +kernel) fun t hf y => ?_
  have h : D.after 7 t = sAt m c t := (dats m 0 c).toRRel_leaves (fgt := outs0) (w := 7) rfl (hL 7 t hf)
  blk_simp
  rw [h]
  have hy : (y 0).val < 1 := (y 0).isLt
  refine res1_at m c t y _ ?_ ?_ ?_ <;> blk_simp [idx7] <;> first | rfl | omega

theorem final8 : D.arrAt 8 cfg0.N = res2 m c := by
  refine D.arrAt_eq_of_covers 8 _ (by decide +kernel) fun t hf y => ?_
  have h : D.after 8 t = qtAt m c t := (dats m 0 c).toRRel_leaves (fgt := outs0) (w := 8) rfl (hL 8 t hf)
  blk_simp
  rw [h]
  have hy : (y 0).val < 1 := (y 0).isLt
  refine res2_at m c t y _ ?_ ?_ ?_ <;> blk_simp [idx8] <;> first | rfl | omega

theorem final9 : D.arrAt 9 cfg0.N = res3 m c := by
  refine D.arrAt_eq_of_covers 9 _ (by decide +kernel) fun t hf y => ?_
  have h : left0 m c 9 t (D.after 9 t) := (dats m 0 c).toRRel_leaves (fgt := outs0) (w := 9) rfl (hL 9 t hf)
  have hy : (y 0).val < 1 := (y 0).isLt
  have hy1 : (y 1).val < 3 := (y 1).isLt
  blk_simp
  have e0 : ((win0_9.blk t).view.emb y 0).val = t.val / 3 := by blk_simp [idx9]
  have e1 : ((win0_9.blk t).view.emb y 1).val = (y 1).val := by blk_simp [idx9]
  have e2 : ((win0_9.blk t).view.emb y 2).val = (y 2).val := by blk_simp [idx9]
  refine (h (flush9 t hf) y (pt ((win0_9.blk t).view.emb y 0) ((win0_9.blk t).view.emb y 1).val ((win0_9.blk t).view.emb y 1).isLt) ?_).trans ?_
  · show 3 * ((win0_9.blk t).view.emb y 0).val + ((win0_9.blk t).view.emb y 1).val = _
    rw [e0, e1]
  · show _ = stAt m c (pt _ _ _) (blkOf ((win0_9.blk t).view.emb y 2).val) (laneOf ((win0_9.blk t).view.emb y 2).val)
    rw [e2]

theorem final10 : D.arrAt 10 cfg0.N = res4 m c := by
  have hw : win0_10.WholeAt (⟨14, by decide⟩ : Fin grid0.N) := by decide +kernel
  have h : left0 m c 10 ⟨14, by decide⟩ (D.after 10 ⟨14, by decide⟩) := (dats m 0 c).toRRel_leaves (fgt := outs0) (w := 10) rfl (hL 10 _ hw.1)
  refine D.arrAt_eq_of_after_last 10 _ hw _ fun j => ?_
  blk_simp
  exact h rfl (fun a => ⟨j a, hw.lt_size j a⟩) (ptR (j 0) (j 1)) rfl

theorem final11 : D.arrAt 11 cfg0.N = res5 m c := by
  have hw : win0_11.WholeAt (⟨14, by decide⟩ : Fin grid0.N) := by decide +kernel
  have h : left0 m c 11 ⟨14, by decide⟩ (D.after 11 ⟨14, by decide⟩) := (dats m 0 c).toRRel_leaves (fgt := outs0) (w := 11) rfl (hL 11 _ hw.1)
  refine D.arrAt_eq_of_after_last 11 _ hw _ fun j => ?_
  blk_simp
  exact h rfl (fun a => ⟨j a, hw.lt_size j a⟩) (ptR (j 0) (j 1)) rfl

end Arr

/-- The kernel's results after a run. -/
theorem run_results : θ_run defs (onTc (τ := τ) (main (F := F))) ⟨m, fun _ => 0, ρ⟩ (fun r => ∀ c : Dev nD,
      r.2.mem ((c.tc : Thread nD τ).loc main_v4_0) = res0 m c
      ∧ r.2.mem ((c.tc : Thread nD τ).loc main_v4_1) = res1 m c
      ∧ r.2.mem ((c.tc : Thread nD τ).loc main_v4_2) = res2 m c
      ∧ r.2.mem ((c.tc : Thread nD τ).loc main_v4_3) = res3 m c
      ∧ r.2.mem ((c.tc : Thread nD τ).loc main_v4_4) = res4 m c
      ∧ r.2.mem ((c.tc : Thread nD τ).loc main_v4_5) = res5 m c) :=
  (θ_run defs _ _).mono (fun r h c => by
    obtain ⟨after, hL, hA⟩ := h.exists_exact c
    exact ⟨(hA 6).trans (final6 m c ((rdat0 m c).withAfter after) hL), (hA 7).trans (final7 m c ((rdat0 m c).withAfter after) hL),
      (hA 8).trans (final8 m c ((rdat0 m c).withAfter after) hL), (hA 9).trans (final9 m c ((rdat0 m c).withAfter after) hL),
      (hA 10).trans (final10 m c ((rdat0 m c).withAfter after) hL), (hA 11).trans (final11 m c ((rdat0 m c).withAfter after) hL)⟩)
    (run_main m ρ)

end Cert.KernelIdeal.Gen

end
-- ==== Proof.Scale.lean ====
/- The quantiser over the extended reals: what the kernel's words choose as the scale of a block and its
   inverse, and the same from a table of the powers of two. -/
module

public import proofs.«01_k».proof.Proof.Quant
public import Idealize.ShloMosaic.Lib.Pointwise
public import Idealize.ShloMosaic.Lib.IdealHost

@[expose] public section

set_option maxRecDepth 16384

noncomputable section

namespace Cert.KernelIdeal.Quant

open Idealize.ShloMosaic Cert.KernelIdeal.Gen

/-- What the f32 word with exponent field `n` and no fraction denotes. -/
def pw (n : ℕ) : EReal := if n = 0 then 0 else if n = 255 then ⊤ else (((2 : ℝ) ^ ((n : ℤ) - 127) : ℝ) : EReal)

theorem pwBits : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

theorem ofBits_pw (n : ℕ) (h : n < 256) : Ideal.ofBits .f32 (BitVec.ofNat 32 n <<< 23) = pw n := by
  obtain ⟨h1, h2, h3⟩ := pwBits ⟨n, h⟩
  show Ideal.ieee 8 23 _ = _
  unfold Ideal.ieee pw
  simp only [] at h1 h2 h3
  simp only [h1, h2, h3, Nat.reduceAdd, Nat.reducePow, Nat.reduceSub, if_true, if_false, Bool.false_eq_true]
  by_cases h255 : n = 255
  · subst h255; simp
  by_cases h0 : n = 0
  · subst h0; simp
  · rw [if_neg h255, if_neg h0, if_neg h0, if_neg h255]
    refine congrArg _ ?_
    have e : (2 : ℝ) ^ 23 = (2 : ℝ) ^ (23 : ℤ) := by norm_num
    have e1 : ((8388608 : ℕ) : ℝ) = (2 : ℝ) ^ (23 : ℤ) := by norm_num
    have e2 : ((n : ℤ) - 127) = 23 + ((n : ℤ) - (2 ^ 7 - 1) - (23 : ℕ)) := by norm_num
    rw [one_mul, e2, zpow_add₀ (by norm_num : (2 : ℝ) ≠ 0), ← e1]

theorem pw_mid (n : ℕ) (h0 : 0 < n) (h1 : n < 255) : pw n = (((2 : ℝ) ^ ((n : ℤ) - 127) : ℝ) : EReal) := by
  unfold pw; rw [if_neg (by omega), if_neg (by omega)]

theorem pw_pos (n : ℕ) (h : 0 < n) : 0 < pw n := by
  unfold pw
  rw [if_neg (by omega)]
  split
  · exact EReal.zero_lt_top
  · exact_mod_cast zpow_pos (by norm_num : (0 : ℝ) < 2) _

theorem pw_lt {a b : ℕ} (h : a < b) (hb : b < 256) : pw a < pw b := by
  by_cases ha : a = 0
  · subst ha; exact (by unfold pw; rw [if_pos rfl] : pw 0 = 0) ▸ pw_pos b h
  rw [pw_mid a (by omega) (by omega)]
  by_cases hb' : b = 255
  · subst hb'; unfold pw; rw [if_neg (by decide), if_pos rfl]; exact EReal.coe_lt_top _
  · rw [pw_mid b (by omega) (by omega), EReal.coe_lt_coe_iff]
    exact zpow_lt_zpow_right₀ (by norm_num) (by omega)

theorem pw_le {a b : ℕ} (h : a ≤ b) (hb : b < 256) : pw a ≤ pw b := by
  rcases Nat.eq_or_lt_of_le h with rfl | h
  · exact le_refl _
  · exact (pw_lt h hb).le

theorem pw_127 : pw 127 = 1 := by rw [pw_mid _ (by decide) (by decide)]; norm_num
theorem pw_255 : pw 255 = ⊤ := by unfold pw; rw [if_neg (by decide), if_pos rfl]

/-! ## The bisection -/

/-- One step on numbers. -/
def stepN (v : EReal) (k n : ℕ) : ℕ := if pw (n + k) ≤ v then n + k else n

/-- `n` is the exponent field of `v`, up to `w`. -/
def Within (v : EReal) (n w : ℕ) : Prop := n + w ≤ 256 ∧ (n = 0 ∨ pw n ≤ v) ∧ (n + w = 256 ∨ v < pw (n + w))

theorem Within.step {v : EReal} {n k : ℕ} (hk : 0 < k) (h : Within v n (k + k)) : Within v (stepN v k n) k := by
  obtain ⟨h1, h2, h3⟩ := h
  unfold stepN
  split
  · rename_i hp
    exact ⟨by omega, .inr hp, by rcases h3 with h3 | h3; exact .inl (by omega); exact .inr (by rw [Nat.add_assoc]; exact h3)⟩
  · rename_i hp
    exact ⟨by omega, h2, .inr (not_le.mp hp)⟩

/-- The exponent field of `v`, as a number. -/
def fieldN (v : EReal) : ℕ :=
  stepN v 1 (stepN v 2 (stepN v 4 (stepN v 8 (stepN v 16 (stepN v 32 (stepN v 64 (stepN v 128 0)))))))

theorem fieldN_within (v : EReal) : Within v (fieldN v) 1 := by
  have h0 : Within v 0 (128 + 128) := ⟨by decide, .inl rfl, .inl rfl⟩
  exact ((((((((h0.step (by decide)).step (k := 64) (by decide)).step (k := 32) (by decide)).step (k := 16) (by decide)).step
    (k := 8) (by decide)).step (k := 4) (by decide)).step (k := 2) (by decide)).step (k := 1) (by decide))

section Words
variable {S : Shape}

theorem fieldStep_apply (v : FVec Ideal S .f32) (n : IVec S 32) (i : S.Idx) (a k : ℕ) (ha : n i = BitVec.ofNat 32 a) (h : a + k < 256) :
    fieldStep v (BitVec.ofNat 32 k) n i = BitVec.ofNat 32 (stepN (v i) k a) := by
  have e : IntOp.shli .vector (n i + BitVec.ofNat 32 k) 23#32 = BitVec.ofNat 32 (a + k) <<< 23 := by
    rw [ha, ← BitVec.ofNat_add]; rfl
  show Scalar.select (Ideal.cmp .oge (v i) (Ideal.ofBits .f32 (IntOp.shli .vector (n i + BitVec.ofNat 32 k) 23#32))) (n i + BitVec.ofNat 32 k) (n i) = _
  rw [e, ofBits_pw _ h, ha, ← BitVec.ofNat_add]
  unfold stepN
  show Scalar.select (BitVec.ofBool (decide (pw (a + k) ≤ v i))) _ _ = _
  by_cases hp : pw (a + k) ≤ v i
  · rw [if_pos hp, decide_eq_true hp]; rfl
  · rw [if_neg hp, decide_eq_false hp]; rfl

theorem fieldV_apply (v : FVec Ideal S .f32) (i : S.Idx) : fieldV v i = BitVec.ofNat 32 (fieldN (v i)) := by
  have w0 : Within (v i) 0 (128 + 128) := ⟨by decide, .inl rfl, .inl rfl⟩
  have w1 := w0.step (by decide)
  have w2 := w1.step (k := 64) (by decide)
  have w3 := w2.step (k := 32) (by decide)
  have w4 := w3.step (k := 16) (by decide)
  have w5 := w4.step (k := 8) (by decide)
  have w6 := w5.step (k := 4) (by decide)
  have w7 := w6.step (k := 2) (by decide)
  unfold fieldV fieldN
  refine fieldStep_apply v _ i _ 1 ?_ (by have := w7.1; omega)
  refine fieldStep_apply v _ i _ 2 ?_ (by have := w6.1; omega)
  refine fieldStep_apply v _ i _ 4 ?_ (by have := w5.1; omega)
  refine fieldStep_apply v _ i _ 8 ?_ (by have := w4.1; omega)
  refine fieldStep_apply v _ i _ 16 ?_ (by have := w3.1; omega)
  refine fieldStep_apply v _ i _ 32 ?_ (by have := w2.1; omega)
  refine fieldStep_apply v _ i _ 64 ?_ (by have := w1.1; omega)
  exact fieldStep_apply v _ i _ 128 rfl (by decide)

theorem shl_word (w : BitVec 32) : IntOp.shli .vector w 23#32 = w <<< 23 := rfl

/-- The exponent field of the scale, as a number. -/
def codeN (v : EReal) : ℕ := if fieldN v = 0 ∨ fieldN v = 255 then 127 else fieldN v + 1

theorem fieldN_lt (v : EReal) : fieldN v < 256 := by have := (fieldN_within v).1; omega

theorem codeN_bd (v : EReal) : 2 ≤ codeN v ∧ codeN v ≤ 255 := by
  have := fieldN_lt v
  unfold codeN; split <;> omega

theorem word_ofNat_inj {a b : ℕ} (ha : a < 256) (hb : b < 256) : (BitVec.ofNat 32 a == BitVec.ofNat 32 b) = decide (a = b) := by
  rw [Bool.eq_iff_iff, beq_iff_eq, decide_eq_true_iff]
  constructor
  · intro h
    have := congrArg BitVec.toNat h
    rw [BitVec.toNat_ofNat, BitVec.toNat_ofNat] at this
    omega
  · rintro rfl; rfl

theorem codeV_apply (v : FVec Ideal S .f32) (i : S.Idx) : codeV v i = BitVec.ofNat 32 (codeN (v i)) := by
  have hl := fieldN_lt (v i)
  show Scalar.select (BitVec.ofBool (fieldV v i == BitVec.ofNat 32 0) ||| BitVec.ofBool (fieldV v i == BitVec.ofNat 32 255)) (BitVec.ofNat 32 127) (fieldV v i + BitVec.ofNat 32 1) = _
  rw [fieldV_apply, word_ofNat_inj hl (by decide), word_ofNat_inj hl (by decide), ← BitVec.ofNat_add]
  unfold codeN
  by_cases h0 : fieldN (v i) = 0
  · rw [if_pos (.inl h0), h0]; rfl
  by_cases h1 : fieldN (v i) = 255
  · rw [if_pos (.inr h1), h1]; rfl
  · rw [if_neg (fun h => h.elim h0 h1), decide_eq_false h0, decide_eq_false h1]; rfl

end Words

theorem scaleV_word {S : Shape} (v : FVec Ideal S .f32) (i : S.Idx) : scaleV v i = Ideal.ofBits .f32 (IntOp.shli .vector (codeV v i) 23#32) := rfl
theorem invV_word {S : Shape} (v : FVec Ideal S .f32) (i : S.Idx) : invV v i = Ideal.ofBits .f32 (IntOp.shli .vector (254#32 - codeV v i) 23#32) := rfl

theorem scaleS_eq (v : EReal) : scaleS (F := Ideal) v = pw (codeN v) := by
  have hc := codeN_bd v
  unfold scaleS
  rw [scaleV_word, codeV_apply, shl_word, ofBits_pw _ (by omega)]

theorem invS_eq (v : EReal) : invS (F := Ideal) v = if codeN v = 255 then ⊥ else pw (254 - codeN v) := by
  have hc := codeN_bd v
  unfold invS
  rw [invV_word, codeV_apply, shl_word]
  by_cases h : codeN v = 255
  · rw [if_pos h, h]
    show Ideal.ofBits .f32 0xFF800000#32 = ⊥
    simp [Ideal.ofBits, Ideal.ieee]
  · rw [if_neg h, ← ofBits_pw _ (by omega)]
    have e : 254#32 - BitVec.ofNat 32 (codeN v) = BitVec.ofNat 32 (254 - codeN v) := by
      apply BitVec.eq_of_toNat_eq
      simp only [BitVec.toNat_sub, BitVec.toNat_ofNat]
      omega
    rw [e]

/-! ## The same from a table -/

/-- The least power above `v` among the 254 of the normal range, `⊤` if none. -/
def above (v : EReal) : EReal :=
  (Finset.univ : Finset (Fin 254)).fold min ⊤ fun k => if v < pw (k.val + 1) then pw (k.val + 1) else ⊤

/-- The scale from the table. -/
def scaleT (v : EReal) : EReal := if v < pw 1 ∨ v = ⊤ then 1 else above v

/-- The inverse of a scale. -/
def invT (s : EReal) : EReal := if s < pw 254 then Ideal.div 1 s else if s < ⊤ then 0 else ⊥

theorem above_eq (v : EReal) (n : ℕ) (h0 : 0 < n) (h1 : n < 255) (hn : pw n ≤ v) (hv : v < pw (n + 1)) : above v = pw (n + 1) := by
  unfold above
  apply le_antisymm
  · by_cases h : n = 254
    · subst h; rw [pw_255]; exact le_top
    · refine (Finset.fold_min_le _).mpr (.inr ⟨⟨n, by omega⟩, Finset.mem_univ _, ?_⟩)
      show (if v < pw (n + 1) then pw (n + 1) else ⊤) ≤ _
      rw [if_pos hv]
  · refine (Finset.le_fold_min _).mpr ⟨le_top, fun k _ => ?_⟩
    split
    · rename_i hk
      refine pw_le ?_ (by omega)
      by_contra hc
      have : pw (k.val + 1) ≤ pw n := pw_le (by omega) (by omega)
      exact absurd (hk.trans_le (this.trans hn)) (lt_irrefl _)
    · exact le_top

theorem scaleS_table (v : EReal) : scaleS (F := Ideal) v = scaleT v := by
  rw [scaleS_eq]
  obtain ⟨h1, h2, h3⟩ := fieldN_within v
  unfold scaleT codeN
  generalize fieldN v = n at h1 h2 h3
  by_cases h0 : n = 0
  · subst h0
    rcases h3 with h3 | h3
    · omega
    · rw [if_pos (.inl rfl), if_pos (.inl h3), pw_127]
  have h2' : pw n ≤ v := h2.resolve_left h0
  by_cases h255 : n = 255
  · subst h255
    rw [pw_255] at h2'
    rw [if_pos (.inr rfl), if_pos (.inr (top_le_iff.mp h2')), pw_127]
  · have h3' : v < pw (n + 1) := h3.resolve_left (by omega)
    rw [if_neg (by tauto), if_neg, above_eq v n (by omega) (by omega) h2' h3']
    rintro (h | h)
    · exact absurd (h.trans_le ((pw_le (by omega) (by omega)).trans h2')) (lt_irrefl _)
    · subst h; exact absurd h3' not_top_lt

theorem invS_table (v : EReal) : invS (F := Ideal) v = invT (scaleS (F := Ideal) v) := by
  rw [invS_eq, scaleS_eq]
  have hc := codeN_bd v
  generalize codeN v = n at hc
  unfold invT
  by_cases h255 : n = 255
  · subst h255
    rw [if_pos rfl, if_neg (not_lt.mpr (pw_le (by decide) (by decide))), pw_255, if_neg (lt_irrefl _)]
  rw [if_neg h255]
  by_cases h254 : n = 254
  · subst h254
    rw [if_neg (lt_irrefl _), if_pos (pw_255 ▸ pw_lt (by decide) (by decide))]
    rfl
  · rw [if_pos (pw_lt (by omega) (by decide))]
    unfold Ideal.div
    rw [if_neg (pw_pos n (by omega)).ne', pw_mid n (by omega) (by omega), pw_mid (254 - n) (by omega) (by omega), one_mul, ← EReal.coe_inv,
      ← zpow_neg]
    congr 2
    omega

end Cert.KernelIdeal.Quant

end
-- ==== Proof.Spec.lean ====
/- The results over the extended reals, one number at a time, from the numbers of the arguments: what both
   programs are shown to compute. -/
module

public import proofs.«01_k».proof.Proof.Scale
public import proofs.«01_k».proof.Proof.Pieces

@[expose] public section

noncomputable section

namespace Cert.Spec

open Idealize.ShloMosaic
open Cert.KernelIdeal.Quant (scaleT invT colAt blkOf laneOf)

/-- The arguments: rows, peers' counts, means and squared deviations, gain and offset. -/
@[ext] structure Args where
  X : Fin 5 → Fin 384 → Fin 5376 → EReal
  C : Fin 3 → EReal
  M : Fin 3 → Fin 5 → Fin 384 → EReal
  Q : Fin 3 → Fin 5 → Fin 384 → EReal
  G : Fin 5376 → EReal
  B : Fin 5376 → EReal

/-- Row `r` of token block `k`. -/
def rowAt (k : Fin 3) (r : Fin 128) : Fin 384 := ⟨128 * k.val + r.val, by omega⟩

/-- The row length 5376. -/
def dim : EReal := Ideal.ofBits .f32 0x45A80000#32
/-- The reciprocal of 448. -/
def k448 : EReal := Ideal.ofBits .f32 0x3B124925#32
/-- Clipped to ±448. -/
def clip (a : EReal) : EReal := min (Ideal.ofBits .f32 0x43E00000#32) (max (Ideal.ofBits .f32 0xC3E00000#32) a)
/-- The largest magnitude of 128 values. -/
def maxAbs (f : Fin 128 → EReal) : EReal :=
  (Finset.univ : Finset (Fin 128)).fold max (Ideal.ofBits .f32 0xFF800000#32) fun k => max (f k) (-(f k))

section Merge
/- One row: its own mean and squared deviation, the peers' counts, means and squared deviations. -/
variable (C M Q : Fin 3 → EReal) (ml ql : EReal)

/-- The counts after one, two and three peers. -/
def n1 : EReal := C 0 + dim
def n2 : EReal := n1 C + C 1
def n3 : EReal := n2 C + C 2
/-- The differences of the means and the means, likewise. -/
def d1 : EReal := ml - M 0
def m1 : EReal := M 0 + d1 M ml * Ideal.div dim (n1 C)
def d2 : EReal := M 1 - m1 C M ml
def m2 : EReal := m1 C M ml + d2 C M ml * Ideal.div (C 1) (n2 C)
def d3 : EReal := M 2 - m2 C M ml
def m3 : EReal := m2 C M ml + d3 C M ml * Ideal.div (C 2) (n3 C)
/-- The squared deviations, likewise. -/
def q1 : EReal := Q 0 + ql + d1 M ml * d1 M ml * Ideal.div (C 0 * dim) (n1 C)
def q2 : EReal := q1 C M Q ml ql + Q 1 + d2 C M ml * d2 C M ml * Ideal.div (n1 C * C 1) (n2 C)
def q3 : EReal := q2 C M Q ml ql + Q 2 + d3 C M ml * d3 C M ml * Ideal.div (n2 C * C 2) (n3 C)
/-- The reciprocal standard deviation. -/
def rs : EReal := Ideal.rsqrt (Ideal.div (q3 C M Q ml ql) (n3 C) + Ideal.ofBits .f32 0x3727C5AC#32)

end Merge

variable (A : Args)

/-- A row's own mean and squared deviation. -/
def mLoc (b : Fin 5) (r : Fin 384) : EReal := Ideal.div (∑ c, A.X b r c) dim
def qLoc (b : Fin 5) (r : Fin 384) : EReal := ∑ c, (A.X b r c - mLoc A b r) * (A.X b r c - mLoc A b r)

/-- The merged mean and reciprocal standard deviation. -/
def mean (b : Fin 5) (r : Fin 384) : EReal := m3 A.C (fun k => A.M k b r) (mLoc A b r)
def rstd (b : Fin 5) (r : Fin 384) : EReal := rs A.C (fun k => A.M k b r) (fun k => A.Q k b r) (mLoc A b r) (qLoc A b r)

/-- The normalised rows. -/
def y (b : Fin 5) (r : Fin 384) (c : Fin 5376) : EReal :=
  (A.X b r c - mean A b r) * rstd A b r * A.G c + A.B c

/-- The largest magnitudes over 448, of a row over a column block and of a column over a token block. -/
def rowTop (b : Fin 5) (r : Fin 384) (j : Fin 42) : EReal := maxAbs (fun k => y A b r (colAt j k)) * k448
def colTop (b : Fin 5) (k : Fin 3) (c : Fin 5376) : EReal := maxAbs (fun r => y A b (rowAt k r) c) * k448

/-- The codes and scales. -/
def q (b : Fin 5) (r : Fin 384) (c : Fin 5376) : EReal := clip (y A b r c * invT (scaleT (rowTop A b r (blkOf c.val))))
def s (b : Fin 5) (j : Fin 42) (r : Fin 384) : EReal := scaleT (rowTop A b r j)
def qt (b : Fin 5) (c : Fin 5376) (r : Fin 384) : EReal :=
  clip (y A b r c * invT (scaleT (colTop A b ⟨r.val / 128, by omega⟩ c)))
def st (b : Fin 5) (k : Fin 3) (c : Fin 5376) : EReal := scaleT (colTop A b k c)

/-- A sum over the columns, by lane and column block. -/
theorem sum_cols (f : Fin 5376 → EReal) : ∑ k : Fin 128, ∑ j : Fin 42, f (colAt j k) = ∑ c, f c := by
  rw [Finset.sum_comm, ← Fintype.sum_prod_type']
  refine Fintype.sum_equiv ⟨fun p => colAt p.1 p.2, fun c => (blkOf c.val, laneOf c.val), ?_, ?_⟩ _ _ (fun _ => rfl)
  · rintro ⟨j, k⟩
    exact Prod.ext (KernelIdeal.Quant.blkOf_add j k) (KernelIdeal.Quant.laneOf_add j k)
  · intro c
    apply Fin.ext
    show 128 * (c.val / 128 % 42) + c.val % 128 = c.val
    omega

theorem colAt_blk (c : Fin 5376) : colAt (blkOf c.val) (laneOf c.val) = c := by
  apply Fin.ext
  show 128 * (c.val / 128 % 42) + c.val % 128 = c.val
  omega

theorem rowAt_div (r : Fin 384) : rowAt ⟨r.val / 128, by omega⟩ (laneOf r.val) = r := by
  apply Fin.ext
  show 128 * (r.val / 128) + r.val % 128 = r.val
  omega

end Cert.Spec

end
-- ==== Proof.KMath.lean ====
/- One grid point of the kernel over the extended reals: what it leaves is what the specification says of its
   token block. -/
module

public import proofs.«01_k».proof.Proof.Spec
public import proofs.«01_k».proof.Proof.PiecesB

@[expose] public section

set_option maxRecDepth 16384

noncomputable section

namespace Cert.KernelIdeal.Quant

open Idealize.ShloMosaic Cert.KernelIdeal.Gen
open Cert.Spec (Args rowAt)

/-- The loads `L` are those of token block `k` of group `b` of the arguments `A`. -/
structure Loads.Of (L : Loads Ideal) (A : Args) (b : Fin 5) (k : Fin 3) : Prop where
  cnt : ∀ i, L.cnt i = A.C i
  pm : ∀ i r, L.pm i (ix3 0 0 r) = A.M i b (rowAt k r)
  pq : ∀ i r, L.pq i (ix3 0 0 r) = A.Q i b (rowAt k r)
  x : ∀ j r l, L.x j (ix3 0 r l) = A.X b (rowAt k r) (colAt j l)
  g : ∀ j l, L.g j (ix2 0 l) = A.G (colAt j l)
  b : ∀ j l, L.b j (ix2 0 l) = A.B (colAt j l)

theorem accTo_apply (f : Fin 42 → FVec Ideal S128x128 .f32) (i : S128x128.Idx) : ∀ (n : ℕ) (h : n ≤ 42),
    accTo f n h i = ∑ j : Fin n, (f ⟨j.val, j.isLt.trans_le h⟩ i : EReal)
  | 0, _ => by
    show Ideal.ofBits .f32 0x00000000#32 = _
    rw [Fin.sum_univ_zero]
    simp [Ideal.ofBits, Ideal.ieee]
  | n + 1, h => by
    rw [Fin.sum_univ_castSucc]
    exact congrArg (· + (f ⟨n, h⟩ i : EReal)) (accTo_apply f i n (Nat.le_of_succ_le h))

theorem rowSum_apply (f : Fin 42 → FVec Ideal S128x128 .f32) (r : Fin 128) (u : Fin 1) :
    rowSum f (ix2 r u) = ∑ l : Fin 128, ∑ j : Fin 42, (f j (ix2 r l) : EReal) := by
  have e : ∀ l, accTo f 42 (le_refl _) (ix2 r l) = ∑ j : Fin 42, (f j (ix2 r l) : EReal) := fun l => accTo_apply f _ 42 _
  unfold rowSum
  generalize accTo f 42 (le_refl _) = g at e
  pointwise
  exact Finset.sum_congr rfl fun l _ => e l

theorem xw_apply (L : Loads Ideal) (j : Fin 42) (r l : Fin 128) : xw L j (ix2 r l) = L.x j (ix3 0 r l) := by
  unfold xw
  pointwise

theorem meanV_merge (L : Loads Ideal) (r : Fin 128) (u : Fin 1) :
    meanV L (ix2 u r) = Spec.m3 L.cnt (fun i => L.pm i (ix3 0 0 r)) (meanLoc L (ix2 r 0)) := by
  unfold Spec.m3 Spec.d3 Spec.m2 Spec.d2 Spec.m1 Spec.d1 Spec.n3 Spec.n2 Spec.n1 meanV
  generalize meanLoc L = ml
  pointwise [k0_pay83, k0_pay65, k0_pay66, k0_pay67, k0_pay68, k0_pay69, k0_pay73, k0_pay75, k0_pay76, k0_pay64, k0_pay77, k0_pay78, k0_pay79, k0_pay80, k0_pay81, k0_pay82]
  rfl

theorem asRow_apply (v : FVec Ideal S128x1 .f32) (r : Fin 128) (u : Fin 1) : asRow v (ix2 u r) = v (ix2 r 0) := by
  unfold asRow
  pointwise

theorem rstdV_merge (L : Loads Ideal) (r : Fin 128) (u : Fin 1) :
    rstdV L (ix2 u r) = Spec.rs L.cnt (fun i => L.pm i (ix3 0 0 r)) (fun i => L.pq i (ix3 0 0 r)) (meanLoc L (ix2 r 0)) (m2Loc L (ix2 r 0)) := by
  have e := asRow_apply (m2Loc L) r u
  rw [← e]
  unfold Spec.rs Spec.q3 Spec.q2 Spec.q1 Spec.d3 Spec.m2 Spec.d2 Spec.m1 Spec.d1 Spec.n3 Spec.n2 Spec.n1 rstdV
  generalize asRow (m2Loc L) = ql
  generalize meanLoc L = ml
  pointwise [k0_pay84, k0_pay65, k0_pay66, k0_pay67, k0_pay68, k0_pay69, k0_pay70, k0_pay71, k0_pay72, k0_pay73, k0_pay75, k0_pay76, k0_pay64, k0_pay77, k0_pay78, k0_pay79, k0_pay80, k0_pay81, k0_pay82]
  rfl

theorem downCols_apply (v : FVec Ideal S1x128 .f32) (r l : Fin 128) : downCols v (ix2 r l) = v (ix2 0 r) := by
  unfold downCols
  pointwise

theorem yV_norm (mc rc : FVec Ideal S128x128 .f32) (L : Loads Ideal) (j : Fin 42) (r l : Fin 128) :
    yV mc rc L j (ix2 r l) = ((L.x j (ix3 0 r l) - mc (ix2 r l)) * rc (ix2 r l) * L.g j (ix2 0 l) + L.b j (ix2 0 l) : EReal) := by
  unfold yV
  pointwise [k0_pay89]

theorem rowMax_apply (mc rc : FVec Ideal S128x128 .f32) (L : Loads Ideal) (j : Fin 42) (r : Fin 128) (u : Fin 1) :
    rowMax mc rc L j (ix2 r u) = Spec.maxAbs fun l => yV mc rc L j (ix2 r l) := by
  unfold rowMax Spec.maxAbs
  generalize yV mc rc L j = y
  pointwise
  rfl

theorem colMax_apply (mc rc : FVec Ideal S128x128 .f32) (L : Loads Ideal) (j : Fin 42) (l : Fin 128) (u : Fin 1) :
    colMax mc rc L j (ix2 u l) = (Spec.maxAbs fun r => yV mc rc L j (ix2 r l)) * Spec.k448 := by
  unfold colMax Spec.maxAbs
  generalize yV mc rc L j = y
  pointwise
  rfl

theorem clipS_eq (a : EReal) : clipS (F := Ideal) a = Spec.clip a := rfl

theorem qtV_apply (mc rc : FVec Ideal S128x128 .f32) (L : Loads Ideal) (j : Fin 42) (l r : Fin 128) (u : Fin 1) :
    qtV mc rc L j (ix3 u l r) = Spec.clip (yV mc rc L j (ix2 r l) * invS (F := Ideal) (colMax mc rc L j (ix2 0 l))) := by
  unfold qtV
  generalize colMax mc rc L j = cm
  generalize yV mc rc L j = y
  pointwise [clipV_apply]
  rfl

variable {L : Loads Ideal} {A : Args} {b : Fin 5} {k : Fin 3} (h : L.Of A b k)
include h

theorem meanLoc_apply (r : Fin 128) (u : Fin 1) : meanLoc L (ix2 r u) = Spec.mLoc A b (rowAt k r) := by
  show Ideal.div (rowSum (xw L) (ix2 r u)) Spec.dim = Ideal.div _ Spec.dim
  rw [rowSum_apply, ← Spec.sum_cols]
  refine congrArg (Ideal.div · Spec.dim) (Finset.sum_congr rfl fun l _ => Finset.sum_congr rfl fun j _ => ?_)
  exact (xw_apply L j r l).trans (h.x j r l)

theorem m2Loc_apply (r : Fin 128) (u : Fin 1) : m2Loc L (ix2 r u) = Spec.qLoc A b (rowAt k r) := by
  unfold m2Loc m2Of Spec.qLoc
  rw [rowSum_apply, ← Spec.sum_cols]
  refine Finset.sum_congr rfl fun l _ => Finset.sum_congr rfl fun j _ => ?_
  have e : subf (xw L j) (broadcastTo S128x128 (meanLoc L) broadcasts_S128x1_S128x128) (ix2 r l)
      = (A.X b (rowAt k r) (colAt j l) - Spec.mLoc A b (rowAt k r) : EReal) := by
    have e1 := meanLoc_apply h r 0
    have e2 := (xw_apply L j r l).trans (h.x j r l)
    rw [← e1, ← e2]
    generalize meanLoc L = m
    generalize xw L j = x
    pointwise
  exact congrArg₂ (fun a b : EReal => a * b) e e

theorem meanV_apply (r : Fin 128) (u : Fin 1) : meanV L (ix2 u r) = Spec.mean A b (rowAt k r) := by
  rw [meanV_merge, meanLoc_apply h, show L.cnt = A.C from funext h.cnt,
    show (fun i => L.pm i (ix3 0 0 r)) = fun i => A.M i b (rowAt k r) from funext fun i => h.pm i r]
  rfl

theorem rstdV_apply (r : Fin 128) (u : Fin 1) : rstdV L (ix2 u r) = Spec.rstd A b (rowAt k r) := by
  rw [rstdV_merge, meanLoc_apply h, m2Loc_apply h, show L.cnt = A.C from funext h.cnt,
    show (fun i => L.pm i (ix3 0 0 r)) = fun i => A.M i b (rowAt k r) from funext fun i => h.pm i r,
    show (fun i => L.pq i (ix3 0 0 r)) = fun i => A.Q i b (rowAt k r) from funext fun i => h.pq i r]
  rfl

theorem yV_apply (j : Fin 42) (r l : Fin 128) : yV (mcL L) (rcL L) L j (ix2 r l) = Spec.y A b (rowAt k r) (colAt j l) := by
  rw [yV_norm, h.x, h.g, h.b]
  unfold mcL rcL
  rw [downCols_apply, downCols_apply, meanV_apply h, rstdV_apply h]
  rfl

theorem rowV_apply (j : Fin 42) (r : Fin 128) : rowV (mcL L) (rcL L) L j r = Spec.rowTop A b (rowAt k r) j := by
  show (rowMax (mcL L) (rcL L) L j (ix2 r 0) * Spec.k448 : EReal) = _
  rw [rowMax_apply, funext fun l => yV_apply h j r l]
  rfl

theorem colMax_top (j : Fin 42) (l : Fin 128) (u : Fin 1) : colMax (mcL L) (rcL L) L j (ix2 u l) = Spec.colTop A b k (colAt j l) := by
  rw [colMax_apply, funext fun r => yV_apply h j r l]
  rfl

theorem qB_apply (u : Fin 1) (r : Fin 128) (c : Fin 5376) : qB (mcL L) (rcL L) L (ix3 u r c) = Spec.q A b (rowAt k r) c := by
  show Spec.clip (yV (mcL L) (rcL L) L (blkOf c.val) (ix2 r (laneOf c.val)) * invS (F := Ideal) (rowV (mcL L) (rcL L) L (blkOf c.val) r)) = _
  rw [yV_apply h, rowV_apply h, invS_table, scaleS_table, Spec.colAt_blk]
  rfl

theorem sB_apply (u : Fin 1) (j : Fin 42) (r : Fin 128) : sB (mcL L) (rcL L) L (ix3 u j r) = Spec.s A b j (rowAt k r) := by
  show scaleS (F := Ideal) (rowV (mcL L) (rcL L) L j r) = _
  rw [rowV_apply h, scaleS_table]
  rfl

theorem qtB_apply (u : Fin 1) (c : Fin 5376) (r : Fin 128) : qtB (mcL L) (rcL L) L (ix3 u c r) = Spec.qt A b c (rowAt k r) := by
  show qtV (mcL L) (rcL L) L (blkOf c.val) (ix3 0 (laneOf c.val) r) = _
  rw [qtV_apply, yV_apply h, colMax_top h, invS_table, scaleS_table, Spec.colAt_blk]
  unfold Spec.qt
  have e : (⟨(rowAt k r).val / 128, by omega⟩ : Fin 3) = k := by
    apply Fin.ext
    show (128 * k.val + r.val) / 128 = k.val
    omega
  rw [e]

theorem st_apply (j : Fin 42) (l : Fin 128) (u : Fin 1) : scaleV (colMax (mcL L) (rcL L) L j) (ix2 u l) = Spec.st A b k (colAt j l) := by
  rw [scaleV_apply, colMax_top h, scaleS_table]
  rfl

end Cert.KernelIdeal.Quant

end
-- ==== Proof.KVals.lean ====
/- The kernel's results over the extended reals, in terms of its arguments: what the specification says. -/
module

public import proofs.«01_k».proof.Proof.Final
public import proofs.«01_k».proof.Proof.KMath

@[expose] public section

set_option maxRecDepth 16384

noncomputable section

namespace Cert.KernelIdeal.Gen

open Idealize.ShloMosaic Idealize.ShloMosaic.TcCoe
open Cert.KernelIdeal.Quant
open Cert.Spec (Args rowAt)

variable (m : (ℓ : Loc nD τ sig) → Buf (Elt Ideal) ℓ) (c : Dev nD)

/-- The numbers of the arguments. -/
def argsK : Args where
  X b r k := m ((c : Thread nD τ).loc main_arg0) (ix3 b r k)
  C k := m ((c : Thread nD τ).loc main_arg1) (ix1 k)
  M k b r := m ((c : Thread nD τ).loc main_arg2) (ix3 k b r)
  Q k b r := m ((c : Thread nD τ).loc main_arg3) (ix3 k b r)
  G k := m ((c : Thread nD τ).loc main_arg4) (ix1 k)
  B k := m ((c : Thread nD τ).loc main_arg5) (ix1 k)

theorem idx0 : ∀ t : Fin cfg0.N, win0_0.index t = ![0] := (by decide +kernel : ∀ t : Fin grid0.N, _)
theorem idx1 : ∀ t : Fin cfg0.N, win0_1.index t = ![t.val / 3, 0, t.val % 3] := (by decide +kernel : ∀ t : Fin grid0.N, _)
theorem idx2 : ∀ t : Fin cfg0.N, win0_2.index t = ![t.val / 3, 0, t.val % 3] := (by decide +kernel : ∀ t : Fin grid0.N, _)
theorem idx3 : ∀ t : Fin cfg0.N, win0_3.index t = ![t.val / 3, t.val % 3, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem blk0 (t : Fin cfg0.N) (k : Fin 3) : iblk m c 0 t (ix1 k) = m ((c : Thread nD τ).loc main_arg1) (ix1 k) := by
  blk_ext! [iblk, V_main_arg1, idx0 t]

theorem blk3 (t : Fin cfg0.N) (b : Fin 5) (k : Fin 3) (ht : t.val = 3 * b.val + k.val) (r : Fin 128) (l : Fin 5376) :
    iblk m c 3 t (ix3 0 r l) = m ((c : Thread nD τ).loc main_arg0) (ix3 b (rowAt k r) l) := by
  blk_ext! [iblk, V_main_arg0, idx3 t, rowAt]

theorem blk1 (t : Fin cfg0.N) (b : Fin 5) (k : Fin 3) (ht : t.val = 3 * b.val + k.val) (i : Fin 3) (r : Fin 128) :
    iblk m c 1 t (ix3 0 i r) = m ((c : Thread nD τ).loc main_arg2) (ix3 i b (rowAt k r)) := by
  blk_ext! [iblk, V, idx1 t, rowAt]

theorem blk2 (t : Fin cfg0.N) (b : Fin 5) (k : Fin 3) (ht : t.val = 3 * b.val + k.val) (i : Fin 3) (r : Fin 128) :
    iblk m c 2 t (ix3 0 i r) = m ((c : Thread nD τ).loc main_arg3) (ix3 i b (rowAt k r)) := by
  blk_ext! [iblk, V, idx2 t, rowAt]

theorem blk4 (t : Fin cfg0.N) (l : Fin 5376) : iblk m c 4 t (ix2 0 l) = m ((c : Thread nD τ).loc main_arg4) (ix1 l) := by
  blk_ext! [iblk, V, idx4 t]

theorem blk5 (t : Fin cfg0.N) (l : Fin 5376) : iblk m c 5 t (ix2 0 l) = m ((c : Thread nD τ).loc main_arg5) (ix1 l) := by
  blk_ext! [iblk, V, idx5 t]

/-- A point's loads are those of its token block. -/
theorem loads_of (b : Fin 5) (k : Fin 3) : (LL m c (pt b k.val k.isLt)).Of (argsK m c) b k where
  cnt i := blk0 m c (pt b k.val k.isLt) i
  pm i r := blk1 m c (pt b k.val k.isLt) b k rfl i r
  pq i r := blk2 m c (pt b k.val k.isLt) b k rfl i r
  x j r l := blk3 m c (pt b k.val k.isLt) b k rfl r (colAt j l)
  g j l := blk4 m c (pt b k.val k.isLt) (colAt j l)
  b j l := blk5 m c (pt b k.val k.isLt) (colAt j l)

theorem loads_ofR (b : Fin 5) (r : Fin 384) : (LL m c (ptR b r)).Of (argsK m c) b ⟨r.val / 128, by omega⟩ :=
  loads_of m c b ⟨r.val / 128, by omega⟩

theorem res0_eq (b : Fin 5) (r : Fin 384) (l : Fin 5376) : res0 m c (ix3 b r l) = Spec.q (argsK m c) b r l :=
  (qB_apply (loads_ofR m c b r) 0 (laneOf r.val) l).trans (by rw [Spec.rowAt_div])

theorem res1_eq (b : Fin 5) (j : Fin 42) (r : Fin 384) : res1 m c (ix3 b j r) = Spec.s (argsK m c) b j r :=
  (sB_apply (loads_ofR m c b r) 0 j (laneOf r.val)).trans (by rw [Spec.rowAt_div])

theorem res2_eq (b : Fin 5) (l : Fin 5376) (r : Fin 384) : res2 m c (ix3 b l r) = Spec.qt (argsK m c) b l r :=
  (qtB_apply (loads_ofR m c b r) 0 l (laneOf r.val)).trans (by rw [Spec.rowAt_div])

theorem res3_eq (b : Fin 5) (k : Fin 3) (l : Fin 5376) : res3 m c (ix3 b k l) = Spec.st (argsK m c) b k l :=
  (st_apply (loads_of m c b k) (blkOf l.val) (laneOf l.val) 0).trans (by rw [Spec.colAt_blk])

theorem res4_eq (b : Fin 5) (r : Fin 384) : res4 m c (ix2 b r) = Spec.mean (argsK m c) b r :=
  (meanV_apply (loads_ofR m c b r) (laneOf r.val) 0).trans (by rw [Spec.rowAt_div])

theorem res5_eq (b : Fin 5) (r : Fin 384) : res5 m c (ix2 b r) = Spec.rstd (argsK m c) b r :=
  (rstdV_apply (loads_ofR m c b r) (laneOf r.val) 0).trans (by rw [Spec.rowAt_div])

end Cert.KernelIdeal.Gen

end
-- ==== Proof.Reads.lean ====
/- The reference's reductions and selections at an index, over the extended reals. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.KernelIdeal.Quant (scaleT invT above pw ofBits_pw colAt blkOf laneOf)
open Cert.Spec (Args rowAt)

theorem abs_apply {s : Shape} (g : FVec Ideal s .f32) (i : s.Idx) : Host.absf g i = max (g i) (-(g i)) := rfl

theorem rows_max (g : FVec Ideal S5x384x42x128 .f32) (b : Fin 5) (r : Fin 384) (j : Fin 42) :
    Host.reduce (FloatOps.maximumf (F := Ideal)) g (constant S_ .f32 0xFF800000#32) reducesTo_S5x384x42x128_S5x384x42_d3 h_S_ (ix3 b r j)
      = (Finset.univ : Finset (Fin 128)).fold max (Ideal.ofBits .f32 0xFF800000#32) fun k => g (ix4 b r j k) := by
  simp only [pointwise]

theorem cols_max (g : FVec Ideal S5x3x128x5376 .f32) (b : Fin 5) (k : Fin 3) (l : Fin 5376) :
    Host.reduce (FloatOps.maximumf (F := Ideal)) g (constant S_ .f32 0xFF800000#32) reducesTo_S5x3x128x5376_S5x3x5376_d2 h_S_ (ix3 b k l)
      = (Finset.univ : Finset (Fin 128)).fold max (Ideal.ofBits .f32 0xFF800000#32) fun r => g (ix4 b k r l) := by
  simp only [pointwise]

theorem times_rows (g : FVec Ideal S5x384x42 .f32) (i : S5x384x42.Idx) :
    mulf g (broadcastInDim S5x384x42 ![] bcast_S_S5x384x42 (constant S_ .f32 0x3B124925#32)) i = g i * Spec.k448 := rfl

theorem times_cols (g : FVec Ideal S5x3x5376 .f32) (i : S5x3x5376.Idx) :
    mulf g (broadcastInDim S5x3x5376 ![] bcast_S_S5x3x5376 (constant S_ .f32 0x3B124925#32)) i = g i * Spec.k448 := rfl

theorem top_rows (g : FVec Ideal S5x384x42x128 .f32) (b : Fin 5) (r : Fin 384) (j : Fin 42) :
    (mulf (Host.reduce (FloatOps.maximumf (F := Ideal)) (Host.absf g) (constant S_ .f32 0xFF800000#32) reducesTo_S5x384x42x128_S5x384x42_d3 h_S_) (broadcastInDim S5x384x42 ![] bcast_S_S5x384x42 (constant S_ .f32 0x3B124925#32)) : FVec Ideal S5x384x42 .f32) (ix3 b r j) = Spec.maxAbs (fun k => g (ix4 b r j k)) * Spec.k448 := by
  have h := rows_max (Host.absf g) b r j
  generalize Host.reduce (FloatOps.maximumf (F := Ideal)) (Host.absf g) (constant S_ .f32 0xFF800000#32) reducesTo_S5x384x42x128_S5x384x42_d3 h_S_ = R at h ⊢
  have e : (fun k => Host.absf g (ix4 b r j k)) = fun k => max (g (ix4 b r j k)) (-(g (ix4 b r j k))) := funext fun k => abs_apply g _
  rw [e] at h
  rw [times_rows, h]
  rfl

theorem top_cols (g : FVec Ideal S5x3x128x5376 .f32) (b : Fin 5) (k : Fin 3) (l : Fin 5376) :
    (mulf (Host.reduce (FloatOps.maximumf (F := Ideal)) (Host.absf g) (constant S_ .f32 0xFF800000#32) reducesTo_S5x3x128x5376_S5x3x5376_d2 h_S_) (broadcastInDim S5x3x5376 ![] bcast_S_S5x3x5376 (constant S_ .f32 0x3B124925#32)) : FVec Ideal S5x3x5376 .f32) (ix3 b k l) = Spec.maxAbs (fun r => g (ix4 b k r l)) * Spec.k448 := by
  have h := cols_max (Host.absf g) b k l
  generalize Host.reduce (FloatOps.maximumf (F := Ideal)) (Host.absf g) (constant S_ .f32 0xFF800000#32) reducesTo_S5x3x128x5376_S5x3x5376_d2 h_S_ = R at h ⊢
  have e : (fun r => Host.absf g (ix4 b k r l)) = fun r => max (g (ix4 b k r l)) (-(g (ix4 b k r l))) := funext fun r => abs_apply g _
  rw [e] at h
  rw [times_cols, h]
  rfl

theorem lit0_eq : ∀ k : Fin 254, lit0 (S254.rowMajor (ix1 k)) = BitVec.ofNat 32 (k.val + 1) <<< 23 := by decide +kernel
theorem lit1_eq : ∀ k : Fin 254, lit1 (S254.rowMajor (ix1 k)) = BitVec.ofNat 32 (k.val + 1) <<< 23 := by decide +kernel

theorem top_bits : Ideal.ofBits .f32 0x7F800000#32 = ⊤ := by simp [Ideal.ofBits, Ideal.ieee]

theorem ori_ofBool (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

/-- The selection from the table, of a value. -/
theorem pick (v : EReal) (w : Fin 254 → BitVec 32) (hw : ∀ k, w k = BitVec.ofNat 32 (k.val + 1) <<< 23) :
    Scalar.select (IntOp.ori (BitVec.ofBool (decide (v < Ideal.ofBits .f32 8388608#32))) (BitVec.ofBool (decide (v = Ideal.ofBits .f32 2139095040#32))))
      1
      ((Finset.univ : Finset (Fin 254)).fold min (Ideal.ofBits .f32 2139095040#32)
        fun k => if v < Ideal.ofBits .f32 (w k) then Ideal.ofBits .f32 (w k) else Ideal.ofBits .f32 2139095040#32) = scaleT v := by
  rw [ori_ofBool, top_bits]
  unfold scaleT above
  have h1 : Ideal.ofBits .f32 8388608#32 = pw 1 := ofBits_pw 1 (by omega)
  rw [h1]
  have hk : ∀ k, Ideal.ofBits .f32 (w k) = pw (k.val + 1) := fun k => by rw [hw k]; exact ofBits_pw _ (by omega)
  simp only [hk]

theorem scale_rows (g : FVec Ideal S5x384x42 .f32) (b : Fin 5) (r : Fin 384) (j : Fin 42) :
    (select (ori (cmpf .olt g (broadcastInDim S5x384x42 ![] bcast_S_S5x384x42 (constant S_ .f32 0x00800000#32))) (cmpf .oeq g (broadcastInDim S5x384x42 ![] bcast_S_S5x384x42 (constant S_ .f32 0x7F800000#32)))) (broadcastInDim S5x384x42 ![] bcast_S_S5x384x42 ((constant S_ .f32 0x3F800000#32))) (Host.reduce (FloatOps.minimumf (F := Ideal)) (select (cmpf .olt (broadcastInDim S5x384x42x254 ![0, 1, 2, 3] bcast_S5x384x42x1_S5x384x42x254_0_1_2_3 (broadcastInDim S5x384x42x1 ![0, 1, 2] bcast_S5x384x42_S5x384x42x1_0_1_2 g)) (broadcastInDim S5x384x42x254 ![0, 1, 2, 3] bcast_S1x1x1x254_S5x384x42x254_0_1_2_3 (broadcastInDim S1x1x1x254 ![3] bcast_S254_S1x1x1x254_3 (fun i => FloatOps.ofBits (F := Ideal) .f32 (lit0 (S254.rowMajor i)) : FVec Ideal S254 .f32)))) (broadcastInDim S5x384x42x254 ![3] bcast_S254_S5x384x42x254_3 (fun i => FloatOps.ofBits (F := Ideal) .f32 (lit0 (S254.rowMajor i)) : FVec Ideal S254 .f32)) (broadcastInDim S5x384x42x254 ![] bcast_S_S5x384x42x254 ((constant S_ .f32 0x7F800000#32)))) (constant S_ .f32 0x7F800000#32) reducesTo_S5x384x42x254_S5x384x42_d3 h_S_) : FVec Ideal S5x384x42 .f32) (ix3 b r j) = scaleT (g (ix3 b r j)) := by
  pointwise
  exact pick _ _ lit0_eq

theorem scale_cols (g : FVec Ideal S5x3x5376 .f32) (b : Fin 5) (k : Fin 3) (l : Fin 5376) :
    (select (ori (cmpf .olt g (broadcastInDim S5x3x5376 ![] bcast_S_S5x3x5376 (constant S_ .f32 0x00800000#32))) (cmpf .oeq g (broadcastInDim S5x3x5376 ![] bcast_S_S5x3x5376 (constant S_ .f32 0x7F800000#32)))) (broadcastInDim S5x3x5376 ![] bcast_S_S5x3x5376 ((constant S_ .f32 0x3F800000#32))) (Host.reduce (FloatOps.minimumf (F := Ideal)) (select (cmpf .olt (broadcastInDim S5x3x5376x254 ![0, 1, 2, 3] bcast_S5x3x5376x1_S5x3x5376x254_0_1_2_3 (broadcastInDim S5x3x5376x1 ![0, 1, 2] bcast_S5x3x5376_S5x3x5376x1_0_1_2 g)) (broadcastInDim S5x3x5376x254 ![0, 1, 2, 3] bcast_S1x1x1x254_S5x3x5376x254_0_1_2_3 (broadcastInDim S1x1x1x254 ![3] bcast_S254_S1x1x1x254_3 (fun i => FloatOps.ofBits (F := Ideal) .f32 (lit1 (S254.rowMajor i)) : FVec Ideal S254 .f32)))) (broadcastInDim S5x3x5376x254 ![3] bcast_S254_S5x3x5376x254_3 (fun i => FloatOps.ofBits (F := Ideal) .f32 (lit1 (S254.rowMajor i)) : FVec Ideal S254 .f32)) (broadcastInDim S5x3x5376x254 ![] bcast_S_S5x3x5376x254 ((constant S_ .f32 0x7F800000#32)))) (constant S_ .f32 0x7F800000#32) reducesTo_S5x3x5376x254_S5x3x5376_d3 h_S_) : FVec Ideal S5x3x5376 .f32) (ix3 b k l) = scaleT (g (ix3 b k l)) := by
  pointwise
  exact pick _ _ lit1_eq

theorem inv_bits (s : EReal) : (if s < Ideal.ofBits .f32 2130706432#32 then Ideal.div 1 s
    else if s < Ideal.ofBits .f32 2139095040#32 then 0 else Ideal.ofBits .f32 4286578688#32) = invT s := by
  have h1 : Ideal.ofBits .f32 2130706432#32 = pw 254 := ofBits_pw 254 (by omega)
  have h2 : Ideal.ofBits .f32 2139095040#32 = ⊤ := by simp [Ideal.ofBits, Ideal.ieee]
  have h3 : Ideal.ofBits .f32 4286578688#32 = ⊥ := by simp [Ideal.ofBits, Ideal.ieee]
  rw [h1, h2, h3]
  rfl

theorem codes_rows (g : FVec Ideal S5x384x42x128 .f32) (s : FVec Ideal S5x384x42 .f32) (b : Fin 5) (r : Fin 384) (l : Fin 5376) :
    (Host.convertf .fp8e4m3 (shapeCast S5x384x5376 (minimumf (broadcastInDim S5x384x42x128 ![] bcast_S_S5x384x42x128 ((constant S_ .f32 0x43E00000#32))) (maximumf (broadcastInDim S5x384x42x128 ![] bcast_S_S5x384x42x128 ((constant S_ .f32 0xC3E00000#32))) (mulf g (broadcastInDim S5x384x42x128 ![0, 1, 2, 3] bcast_S5x384x42x1_S5x384x42x128_0_1_2_3 (broadcastInDim S5x384x42x1 ![0, 1, 2] bcast_S5x384x42_S5x384x42x1_0_1_2 (select (cmpf .olt s (broadcastInDim S5x384x42 ![] bcast_S_S5x384x42 (constant S_ .f32 0x7F000000#32))) (Host.divf (broadcastInDim S5x384x42 ![] bcast_S_S5x384x42 (constant S_ .f32 0x3F800000#32)) s) ((select (cmpf .olt s (broadcastInDim S5x384x42 ![] bcast_S_S5x384x42 (constant S_ .f32 0x7F800000#32))) (broadcastInDim S5x384x42 ![] bcast_S_S5x384x42 (constant S_ .f32 0x00000000#32)) (broadcastInDim S5x384x42 ![] bcast_S_S5x384x42 (constant S_ .f32 0xFF800000#32)))))))))) shapeCasts_S5x384x42x128_S5x384x5376) : FVec Ideal S5x384x5376 .fp8e4m3) (ix3 b r l)
      = Spec.clip (g (ix4 b r (blkOf l.val) (laneOf l.val)) * invT (s (ix3 b r (blkOf l.val)))) := by
  pointwise
  rw [inv_bits]
  unfold Spec.clip
  rw [show blkOf l.val = ⟨l.val / 128, by omega⟩ from Fin.ext (Nat.mod_eq_of_lt (by omega : l.val / 128 < 42))]
  rfl

theorem codes_cols (g : FVec Ideal S5x3x128x5376 .f32) (s : FVec Ideal S5x3x5376 .f32) (b : Fin 5) (l : Fin 5376) (r : Fin 384) :
    (Host.convertf .fp8e4m3 (transpose S5x5376x384 [0, 2, 1] (shapeCast S5x384x5376 (minimumf (broadcastInDim S5x3x128x5376 ![] bcast_S_S5x3x128x5376 ((constant S_ .f32 0x43E00000#32))) (maximumf (broadcastInDim S5x3x128x5376 ![] bcast_S_S5x3x128x5376 ((constant S_ .f32 0xC3E00000#32))) (mulf g (broadcastInDim S5x3x128x5376 ![0, 1, 2, 3] bcast_S5x3x1x5376_S5x3x128x5376_0_1_2_3 (broadcastInDim S5x3x1x5376 ![0, 1, 3] bcast_S5x3x5376_S5x3x1x5376_0_1_3 (select (cmpf .olt s (broadcastInDim S5x3x5376 ![] bcast_S_S5x3x5376 (constant S_ .f32 0x7F000000#32))) (Host.divf (broadcastInDim S5x3x5376 ![] bcast_S_S5x3x5376 (constant S_ .f32 0x3F800000#32)) s) ((select (cmpf .olt s (broadcastInDim S5x3x5376 ![] bcast_S_S5x3x5376 (constant S_ .f32 0x7F800000#32))) (broadcastInDim S5x3x5376 ![] bcast_S_S5x3x5376 (constant S_ .f32 0x00000000#32)) (broadcastInDim S5x3x5376 ![] bcast_S_S5x3x5376 (constant S_ .f32 0xFF800000#32)))))))))) shapeCasts_S5x3x128x5376_S5x384x5376) transposes_S5x384x5376_S5x5376x384_0_2_1) : FVec Ideal S5x5376x384 .fp8e4m3) (ix3 b l r)
      = Spec.clip (g (ix4 b ⟨r.val / 128, by omega⟩ (laneOf r.val) l) * invT (s (ix3 b ⟨r.val / 128, by omega⟩ l))) := by
  pointwise
  rw [inv_bits]
  rfl

end Cert.ReferenceIdeal.Value

end
-- ==== Proof.RefVals.lean ====
/- The reference's results over the extended reals, in terms of its arguments: what the specification says. -/
module

public import proofs.«01_k».proof.Proof.Gen.ReferenceIdeal.Run
public import proofs.«01_k».proof.Proof.Reads
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.KernelIdeal.Quant (scaleT invT above pw ofBits_pw colAt blkOf laneOf)
open Cert.Spec (Args rowAt)

variable (V0 : Valuation τ sig (Elt Ideal))

/-- The numbers of the arguments. -/
def argsR : Args where
  X b r k := V0 (Proc.devRef .tc main_arg0) (ix3 b r k)
  C k := V0 (Proc.devRef .tc main_arg1) (ix1 k)
  M k b r := V0 (Proc.devRef .tc main_arg2) (ix3 k b r)
  Q k b r := V0 (Proc.devRef .tc main_arg3) (ix3 k b r)
  G k := V0 (Proc.devRef .tc main_arg4) (ix1 k)
  B k := V0 (Proc.devRef .tc main_arg5) (ix1 k)

theorem zero_bits : Ideal.ofBits .f32 0x00000000#32 = 0 := by simp [Ideal.ofBits, Ideal.ieee]

theorem v3_apply (b : Fin 5) (r : Fin 384) : res_main_v3 V0 (ix2 b r) = Spec.mLoc (argsR V0) b r := by
  unfold res_main_v3 res_main_v0
  pointwise
  rfl

theorem v6_apply (b : Fin 5) (r : Fin 384) (k : Fin 5376) :
    res_main_v6 V0 (ix3 b r k) = (argsR V0).X b r k - Spec.mLoc (argsR V0) b r := by
  have h := v3_apply V0 b r
  unfold res_main_v6 res_main_v0
  generalize res_main_v3 V0 = g at h
  pointwise
  rw [h]
  rfl

/-- The squared deviations, the mean, the reciprocal standard deviation and the codes, as the program states them. -/
def devR : FVec Ideal S5x384 .f32 := Host.reduceAdd (mulf (res_main_v6 V0) (res_main_v6 V0)) (constant S_ .f32 0x00000000#32) reducesTo_S5x384x5376_S5x384_d2 h_S_
def meanR : FVec Ideal S5x384 .f32 := addf (res_main_v45 V0) (mulf (res_main_v54 V0) (broadcastInDim S5x384 ![] bcast_S_S5x384 (Host.divf (res_main_v22 V0) (res_main_v53 V0))))
def rstdR : FVec Ideal S5x384 .f32 := Host.rsqrt (addf (Host.divf (addf (addf (addf (addf (addf (addf (shapeCast _ (extractStridedSlice S1x5x384 ![0, 0, 0] (V0 (Proc.devRef .tc main_arg3)) slices_S3x5x384_S1x5x384_0_0_0) shapeCasts_S1x5x384_S5x384) (devR V0)) (mulf (mulf (res_main_v28 V0) (res_main_v28 V0)) (broadcastInDim S5x384 ![] bcast_S_S5x384 (Host.divf (mulf (res_main_v10 V0) (constant S_ .f32 0x45A80000#32)) (res_main_v27 V0))))) (shapeCast _ (extractStridedSlice S1x5x384 ![1, 0, 0] (V0 (Proc.devRef .tc main_arg3)) slices_S3x5x384_S1x5x384_1_0_0) shapeCasts_S1x5x384_S5x384)) (mulf (mulf (res_main_v41 V0) (res_main_v41 V0)) (broadcastInDim S5x384 ![] bcast_S_S5x384 (Host.divf (mulf (res_main_v27 V0) (res_main_v16 V0)) (res_main_v40 V0))))) (shapeCast _ (extractStridedSlice S1x5x384 ![2, 0, 0] (V0 (Proc.devRef .tc main_arg3)) slices_S3x5x384_S1x5x384_2_0_0) shapeCasts_S1x5x384_S5x384)) (mulf (mulf (res_main_v54 V0) (res_main_v54 V0)) (broadcastInDim S5x384 ![] bcast_S_S5x384 (Host.divf (mulf (res_main_v40 V0) (res_main_v22 V0)) (res_main_v53 V0))))) (broadcastInDim S5x384 ![] bcast_S_S5x384 (res_main_v53 V0))) (broadcastInDim S5x384 ![] bcast_S_S5x384 (constant S_ .f32 0x3727C5AC#32)))
def qR : FVec Ideal S5x384x5376 .fp8e4m3 := Host.convertf .fp8e4m3 (shapeCast _ (minimumf (broadcastInDim S5x384x42x128 ![] bcast_S_S5x384x42x128 (id (constant S_ .f32 0x43E00000#32))) (maximumf (broadcastInDim S5x384x42x128 ![] bcast_S_S5x384x42x128 (id (constant S_ .f32 0xC3E00000#32))) (mulf (res_main_v83 V0) (broadcastInDim S5x384x42x128 ![0, 1, 2, 3] bcast_S5x384x42x1_S5x384x42x128_0_1_2_3 (broadcastInDim S5x384x42x1 ![0, 1, 2] bcast_S5x384x42_S5x384x42x1_0_1_2 (select (cmpf .olt (res_main_v100 V0) (broadcastInDim S5x384x42 ![] bcast_S_S5x384x42 (constant S_ .f32 0x7F000000#32))) (Host.divf (broadcastInDim S5x384x42 ![] bcast_S_S5x384x42 (constant S_ .f32 0x3F800000#32)) (res_main_v100 V0)) (id (select (cmpf .olt (res_main_v100 V0) (broadcastInDim S5x384x42 ![] bcast_S_S5x384x42 (constant S_ .f32 0x7F800000#32))) (broadcastInDim S5x384x42 ![] bcast_S_S5x384x42 (constant S_ .f32 0x00000000#32)) (broadcastInDim S5x384x42 ![] bcast_S_S5x384x42 (constant S_ .f32 0xFF800000#32)))))))))) shapeCasts_S5x384x42x128_S5x384x5376)
def qtR : FVec Ideal S5x5376x384 .fp8e4m3 := Host.convertf .fp8e4m3 (transpose S5x5376x384 [0, 2, 1] (shapeCast _ (minimumf (broadcastInDim S5x3x128x5376 ![] bcast_S_S5x3x128x5376 (id (constant S_ .f32 0x43E00000#32))) (maximumf (broadcastInDim S5x3x128x5376 ![] bcast_S_S5x3x128x5376 (id (constant S_ .f32 0xC3E00000#32))) (mulf (res_main_v114 V0) (broadcastInDim S5x3x128x5376 ![0, 1, 2, 3] bcast_S5x3x1x5376_S5x3x128x5376_0_1_2_3 (broadcastInDim S5x3x1x5376 ![0, 1, 3] bcast_S5x3x5376_S5x3x1x5376_0_1_3 (select (cmpf .olt (res_main_v131 V0) (broadcastInDim S5x3x5376 ![] bcast_S_S5x3x5376 (constant S_ .f32 0x7F000000#32))) (Host.divf (broadcastInDim S5x3x5376 ![] bcast_S_S5x3x5376 (constant S_ .f32 0x3F800000#32)) (res_main_v131 V0)) (id (select (cmpf .olt (res_main_v131 V0) (broadcastInDim S5x3x5376 ![] bcast_S_S5x3x5376 (constant S_ .f32 0x7F800000#32))) (broadcastInDim S5x3x5376 ![] bcast_S_S5x3x5376 (constant S_ .f32 0x00000000#32)) (broadcastInDim S5x3x5376 ![] bcast_S_S5x3x5376 (constant S_ .f32 0xFF800000#32)))))))))) shapeCasts_S5x3x128x5376_S5x384x5376) transposes_S5x384x5376_S5x5376x384_0_2_1)

theorem v82_eq : res_main_v82 V0 = addf (mulf (mulf (subf (res_main_v0 V0) (broadcastInDim S5x384x5376 ![0, 1, 2] bcast_S5x384x1_S5x384x5376_0_1_2 (broadcastInDim S5x384x1 ![0, 1] bcast_S5x384_S5x384x1_0_1 (meanR V0)))) (broadcastInDim S5x384x5376 ![0, 1, 2] bcast_S5x384x1_S5x384x5376_0_1_2 (broadcastInDim S5x384x1 ![0, 1] bcast_S5x384_S5x384x1_0_1 (rstdR V0)))) (broadcastInDim S5x384x5376 ![0, 1, 2] bcast_S1x1x5376_S5x384x5376_0_1_2 (broadcastInDim S1x1x5376 ![2] bcast_S5376_S1x1x5376_2 (V0 (Proc.devRef .tc main_arg4))))) (broadcastInDim S5x384x5376 ![0, 1, 2] bcast_S1x1x5376_S5x384x5376_0_1_2 (broadcastInDim S1x1x5376 ![2] bcast_S5376_S1x1x5376_2 (V0 (Proc.devRef .tc main_arg5)))) := by
  unfold res_main_v82 meanR rstdR devR
  rfl

theorem dev_apply (b : Fin 5) (r : Fin 384) : devR V0 (ix2 b r) = Spec.qLoc (argsR V0) b r := by
  have h := v6_apply V0 b r
  unfold devR
  generalize res_main_v6 V0 = g at h
  pointwise
  exact Finset.sum_congr rfl fun k _ => by rw [h k]

theorem mean_apply (b : Fin 5) (r : Fin 384) : meanR V0 (ix2 b r) = Spec.mean (argsR V0) b r := by
  have h := v3_apply V0 b r
  unfold Spec.mean
  rw [← h]
  unfold Spec.m3 Spec.d3 Spec.m2 Spec.d2 Spec.m1 Spec.d1 Spec.n3 Spec.n2 Spec.n1 meanR
  unfold res_main_v45 res_main_v54 res_main_v45 res_main_v53 res_main_v41 res_main_v40 res_main_v32 res_main_v28 res_main_v27 res_main_v22 res_main_v16 res_main_v12 res_main_v10
  generalize res_main_v3 V0 = g
  pointwise
  rfl

theorem rstd_apply (b : Fin 5) (r : Fin 384) : rstdR V0 (ix2 b r) = Spec.rstd (argsR V0) b r := by
  have h := v3_apply V0 b r
  have h' := dev_apply V0 b r
  unfold Spec.rstd
  rw [← h, ← h']
  unfold Spec.rs Spec.q3 Spec.q2 Spec.q1 Spec.d3 Spec.m2 Spec.d2 Spec.m1 Spec.d1 Spec.n3 Spec.n2 Spec.n1 rstdR
  unfold res_main_v54 res_main_v45 res_main_v53 res_main_v41 res_main_v40 res_main_v32 res_main_v28 res_main_v27 res_main_v22 res_main_v16 res_main_v12 res_main_v10
  generalize res_main_v3 V0 = g
  generalize devR V0 = g'
  pointwise
  rfl

theorem y_apply (b : Fin 5) (r : Fin 384) (k : Fin 5376) : res_main_v82 V0 (ix3 b r k) = Spec.y (argsR V0) b r k := by
  have h := mean_apply V0 b r
  have h' := rstd_apply V0 b r
  rw [v82_eq]
  unfold Spec.y res_main_v0
  rw [← h, ← h']
  generalize meanR V0 = g
  generalize rstdR V0 = g'
  pointwise
  rfl

/-- The rows by column block, the columns by token block. -/
theorem v83_apply (b : Fin 5) (r : Fin 384) (j : Fin 42) (k : Fin 128) :
    res_main_v83 V0 (ix4 b r j k) = Spec.y (argsR V0) b r (colAt j k) := by
  rw [← y_apply]
  unfold res_main_v83
  generalize res_main_v82 V0 = g
  pointwise
  exact congrArg (fun u => g (ix3 b r u)) (Fin.ext (by show j.val * 128 + k.val = 128 * j.val + k.val; omega))

theorem v114_apply (b : Fin 5) (k : Fin 3) (r : Fin 128) (l : Fin 5376) :
    res_main_v114 V0 (ix4 b k r l) = Spec.y (argsR V0) b (rowAt k r) l := by
  rw [← y_apply]
  unfold res_main_v114
  generalize res_main_v82 V0 = g
  pointwise
  exact congrArg (fun u => g (ix3 b u l)) (Fin.ext (by show k.val * 128 + r.val = 128 * k.val + r.val; omega))

theorem v87_apply (b : Fin 5) (r : Fin 384) (j : Fin 42) : res_main_v87 V0 (ix3 b r j) = Spec.rowTop (argsR V0) b r j := by
  have h := top_rows (res_main_v83 V0) b r j
  have e : (fun k => res_main_v83 V0 (ix4 b r j k)) = fun k => Spec.y (argsR V0) b r (colAt j k) := funext fun k => v83_apply V0 b r j k
  unfold res_main_v87 Spec.rowTop
  rw [← e]
  exact h

theorem v118_apply (b : Fin 5) (k : Fin 3) (l : Fin 5376) : res_main_v118 V0 (ix3 b k l) = Spec.colTop (argsR V0) b k l := by
  have h := top_cols (res_main_v114 V0) b k l
  have e : (fun r => res_main_v114 V0 (ix4 b k r l)) = fun r => Spec.y (argsR V0) b (rowAt k r) l := funext fun r => v114_apply V0 b k r l
  unfold res_main_v118 Spec.colTop
  rw [← e]
  exact h

theorem v100_apply (b : Fin 5) (r : Fin 384) (j : Fin 42) : res_main_v100 V0 (ix3 b r j) = scaleT (Spec.rowTop (argsR V0) b r j) := by
  rw [← v87_apply]
  have h := scale_rows (res_main_v87 V0) b r j
  unfold res_main_v100 res_main_cst
  exact h

theorem v131_apply (b : Fin 5) (k : Fin 3) (l : Fin 5376) : res_main_v131 V0 (ix3 b k l) = scaleT (Spec.colTop (argsR V0) b k l) := by
  rw [← v118_apply]
  have h := scale_cols (res_main_v118 V0) b k l
  unfold res_main_v131 res_main_cst_0
  exact h

theorem q_apply (b : Fin 5) (r : Fin 384) (l : Fin 5376) : qR V0 (ix3 b r l) = Spec.q (argsR V0) b r l := by
  have h := codes_rows (res_main_v83 V0) (res_main_v100 V0) b r l
  rw [v83_apply, v100_apply, Spec.colAt_blk] at h
  unfold qR
  exact h

theorem qt_apply (b : Fin 5) (l : Fin 5376) (r : Fin 384) : qtR V0 (ix3 b l r) = Spec.qt (argsR V0) b l r := by
  have h := codes_cols (res_main_v114 V0) (res_main_v131 V0) b l r
  rw [v114_apply, v131_apply, Spec.rowAt_div] at h
  unfold qtR
  exact h

theorem s_apply (b : Fin 5) (j : Fin 42) (r : Fin 384) :
    (transpose S5x42x384 [0, 2, 1] (res_main_v100 V0) transposes_S5x384x42_S5x42x384_0_2_1 : FVec Ideal S5x42x384 .f32) (ix3 b j r)
      = Spec.s (argsR V0) b j r := by
  have h := v100_apply V0 b r j
  unfold Spec.s
  rw [← h]
  generalize res_main_v100 V0 = g
  pointwise

end Cert.ReferenceIdeal.Value

end
-- ==== Proof.Agree.lean ====
/- The two programs compute the same numbers. -/
module

public import proofs.«01_k».proof.Defs
public import proofs.«01_k».proof.Proof.KVals
public import proofs.«01_k».proof.Proof.RefVals

@[expose] public section

set_option maxRecDepth 16384

noncomputable section

namespace Cert.Agree

open Idealize.ShloMosaic Idealize.ShloMosaic.TcCoe Idealize.SL.Sem
open Cert.Spec (Args)

/-- The results as arrays. -/
def q (A : Args) : FVec Ideal ⟨3, ![5, 384, 5376]⟩ .fp8e4m3 := fun i => Spec.q A (i 0) (i 1) (i 2)
def s (A : Args) : FVec Ideal ⟨3, ![5, 42, 384]⟩ .f32 := fun i => Spec.s A (i 0) (i 1) (i 2)
def qt (A : Args) : FVec Ideal ⟨3, ![5, 5376, 384]⟩ .fp8e4m3 := fun i => Spec.qt A (i 0) (i 1) (i 2)
def st (A : Args) : FVec Ideal ⟨3, ![5, 3, 5376]⟩ .f32 := fun i => Spec.st A (i 0) (i 1) (i 2)
def mean (A : Args) : FVec Ideal ⟨2, ![5, 384]⟩ .f32 := fun i => Spec.mean A (i 0) (i 1)
def rstd (A : Args) : FVec Ideal ⟨2, ![5, 384]⟩ .f32 := fun i => Spec.rstd A (i 0) (i 1)

section Kernel
open Cert.KernelIdeal Cert.KernelIdeal.Gen
variable (m : (ℓ : Loc nD τ sig) → Buf (Elt Ideal) ℓ) (c : Dev nD)

theorem k0 : res0 m c = q (argsK m c) := funext fun i => (congrArg (res0 m c) (eq_ix3 i)).trans (res0_eq m c (i 0) (i 1) (i 2))
theorem k1 : res1 m c = s (argsK m c) := funext fun i => (congrArg (res1 m c) (eq_ix3 i)).trans (res1_eq m c (i 0) (i 1) (i 2))
theorem k2 : res2 m c = qt (argsK m c) := funext fun i => (congrArg (res2 m c) (eq_ix3 i)).trans (res2_eq m c (i 0) (i 1) (i 2))
theorem k3 : res3 m c = st (argsK m c) := funext fun i => (congrArg (res3 m c) (eq_ix3 i)).trans (res3_eq m c (i 0) (i 1) (i 2))
theorem k4 : res4 m c = mean (argsK m c) := funext fun i => (congrArg (res4 m c) (eq_ix2 i)).trans (res4_eq m c (i 0) (i 1))
theorem k5 : res5 m c = rstd (argsK m c) := funext fun i => (congrArg (res5 m c) (eq_ix2 i)).trans (res5_eq m c (i 0) (i 1))

end Kernel

section Reference
open Cert.ReferenceIdeal Cert.ReferenceIdeal.Gen Cert.ReferenceIdeal.Value
variable (V0 : Valuation τ sig (Elt Ideal))

theorem r0 : qR V0 = q (argsR V0) := funext fun i => (congrArg (qR V0) (eq_ix3 i)).trans (q_apply V0 (i 0) (i 1) (i 2))
theorem r1 : (transpose S5x42x384 [0, 2, 1] (res_main_v100 V0) transposes_S5x384x42_S5x42x384_0_2_1 : FVec Ideal S5x42x384 .f32) = s (argsR V0) :=
  funext fun i => (congrArg _ (eq_ix3 i)).trans (s_apply V0 (i 0) (i 1) (i 2))
theorem r2 : qtR V0 = qt (argsR V0) := funext fun i => (congrArg (qtR V0) (eq_ix3 i)).trans (qt_apply V0 (i 0) (i 1) (i 2))
theorem r3 : res_main_v131 V0 = st (argsR V0) := funext fun i => (congrArg (res_main_v131 V0) (eq_ix3 i)).trans (v131_apply V0 (i 0) (i 1) (i 2))
theorem r4 : meanR V0 = mean (argsR V0) := funext fun i => (congrArg (meanR V0) (eq_ix2 i)).trans (mean_apply V0 (i 0) (i 1))
theorem r5 : rstdR V0 = rstd (argsR V0) := funext fun i => (congrArg (rstdR V0) (eq_ix2 i)).trans (rstd_apply V0 (i 0) (i 1))

end Reference

/-- Memories that agree on the arguments give the same numbers. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.argsR (StableHlo.launchContents m' c) = Cert.KernelIdeal.Gen.argsK m c := by
  obtain ⟨h0, h1, h2, h3, h4, h5⟩ := h
  refine Args.ext ?_ ?_ ?_ ?_ ?_ ?_
  · exact funext fun b => funext fun r => funext fun k => congrFun h0 (ix3 b r k)
  · exact funext fun k => congrFun h1 (ix1 k)
  · exact funext fun k => funext fun b => funext fun r => congrFun h2 (ix3 k b r)
  · exact funext fun k => funext fun b => funext fun r => congrFun h3 (ix3 k b r)
  · exact funext fun k => congrFun h4 (ix1 k)
  · exact funext fun k => congrFun h5 (ix1 k)

/-- From equal arguments the kernel and the reference end with equal results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => q (Cert.KernelIdeal.Gen.argsK m c), fun c => s (Cert.KernelIdeal.Gen.argsK m c), fun c => qt (Cert.KernelIdeal.Gen.argsK m c),
    fun c => st (Cert.KernelIdeal.Gen.argsK m c), fun c => mean (Cert.KernelIdeal.Gen.argsK m c), fun c => rstd (Cert.KernelIdeal.Gen.argsK m c), ?_, ?_⟩
  · refine (θ_run Cert.KernelIdeal.defs _ _).mono (fun r hr c => ?_) (θ_run_and (Cert.KernelIdeal.Gen.run_results m g) (Cert.KernelIdeal.Gen.unchanged m g))
    obtain ⟨h0, h1, h2, h3, h4, h5⟩ := hr.1 c
    exact ⟨h0.trans (k0 m c), h1.trans (k1 m c), h2.trans (k2 m c), h3.trans (k3 m c), h4.trans (k4 m c), h5.trans (k5 m c), hr.2 c⟩
  · refine (θ_run Cert.ReferenceIdeal.defs _ _).mono (fun r hr c => ?_) (Cert.ReferenceIdeal.Value.run m' g')
    obtain ⟨h0, h1, h2, h3, h4, h5, h6⟩ := hr c
    have e := args_eq m m' c (h c)
    refine ⟨h0.trans ((r0 (StableHlo.launchContents m' c)).trans ?_), h1.trans ((r1 (StableHlo.launchContents m' c)).trans ?_),
      h2.trans ((r2 (StableHlo.launchContents m' c)).trans ?_), h3.trans ((r3 (StableHlo.launchContents m' c)).trans ?_),
      h4.trans ((r4 (StableHlo.launchContents m' c)).trans ?_), h5.trans ((r5 (StableHlo.launchContents m' c)).trans ?_), h6⟩ <;> rw [e]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KFrame
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2.2.2,
    Idealize.ShloMosaic.sem_eq_zero_of_no_sems (by decide) r.2⟩) (Cert.ReferenceIdeal.Value.run m ρ),
  trivial, Cert.Agree.algebraic⟩

end Cert.Proof

end
